-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S16x128
  ∧ IdealRules.bf16_pair.Statement Cert.KernelIdeal.S32x128 Cert.KernelIdeal.S16x128
  ∧ IdealRules.bf16_pair.PackStatement Cert.KernelIdeal.S312x128
  ∧ IdealRules.bf16_pair.Statement Cert.KernelIdeal.S1x624x128 Cert.KernelIdeal.S1x312x128
  ∧ IdealRules.bf16_pair.Statement Cert.KernelIdeal.S1x2x128 Cert.KernelIdeal.S1x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x9984 : Shape := ⟨3, ![16, 1, 9984]⟩
abbrev S9984x15488 : Shape := ⟨2, ![9984, 15488]⟩
abbrev S624x30976 : Shape := ⟨2, ![624, 30976]⟩
abbrev S_ : Shape := ⟨0, ![]⟩
abbrev S1 : Shape := ⟨1, ![1]⟩
abbrev S16x9984 : Shape := ⟨2, ![16, 9984]⟩
abbrev S16x30976 : Shape := ⟨2, ![16, 30976]⟩
abbrev S9984x256 : Shape := ⟨2, ![9984, 256]⟩
abbrev S624x512 : Shape := ⟨2, ![624, 512]⟩
abbrev S16x512 : Shape := ⟨2, ![16, 512]⟩
abbrev S2x624x128 : Shape := ⟨3, ![2, 624, 128]⟩
abbrev S16x128 : Shape := ⟨2, ![16, 128]⟩
abbrev S16x128x1 : Shape := ⟨3, ![16, 128, 1]⟩
abbrev S16x256 : Shape := ⟨2, ![16, 256]⟩
abbrev S624x256 : Shape := ⟨2, ![624, 256]⟩
abbrev S624x128 : Shape := ⟨2, ![624, 128]⟩
abbrev S624x128x1 : Shape := ⟨3, ![624, 128, 1]⟩
abbrev S312x128 : Shape := ⟨2, ![312, 128]⟩
abbrev S2x312x128 : Shape := ⟨3, ![2, 312, 128]⟩
abbrev S1x312x128 : Shape := ⟨3, ![1, 312, 128]⟩
abbrev S1x624x128 : Shape := ⟨3, ![1, 624, 128]⟩
abbrev S32x128 : Shape := ⟨2, ![32, 128]⟩
abbrev S8x128 : Shape := ⟨2, ![8, 128]⟩
abbrev S64x128 : Shape := ⟨2, ![64, 128]⟩
abbrev S1x1x128 : Shape := ⟨3, ![1, 1, 128]⟩
abbrev S1x2x128 : Shape := ⟨3, ![1, 2, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 7
  | .vmem => 9
  | .smem => 1
  | _ => 0

abbrev bufTy : (tb : Table) → Fin (tcTables nBuf tb) → BufTy
  | .hbm, ⟨0, _⟩ => ⟨S16x1x9984, .bf16⟩
  | .hbm, ⟨1, _⟩ => ⟨S9984x15488, .i8⟩
  | .hbm, ⟨2, _⟩ => ⟨S624x30976, .fp8e4m3⟩
  | .hbm, ⟨3, _⟩ => ⟨S_, .f32⟩
  | .hbm, ⟨4, _⟩ => ⟨S1, .f32⟩
  | .hbm, ⟨5, _⟩ => ⟨S16x9984, .bf16⟩
  | .hbm, ⟨6, _⟩ => ⟨S16x30976, .bf16⟩
  | .local _ .vmem, ⟨0, _⟩ => ⟨S16x9984, .bf16⟩
  | .local _ .vmem, ⟨1, _⟩ => ⟨S9984x256, .i8⟩
  | .local _ .vmem, ⟨2, _⟩ => ⟨S9984x256, .i8⟩
  | .local _ .vmem, ⟨3, _⟩ => ⟨S624x512, .fp8e4m3⟩
  | .local _ .vmem, ⟨4, _⟩ => ⟨S624x512, .fp8e4m3⟩
  | .local _ .vmem, ⟨5, _⟩ => ⟨S16x512, .bf16⟩
  | .local _ .vmem, ⟨6, _⟩ => ⟨S16x512, .bf16⟩
  | .local _ .vmem, ⟨7, _⟩ => ⟨S16x9984, .bf16⟩
  | .local _ .vmem, ⟨8, _⟩ => ⟨S2x624x128, .bf16⟩
  | .local _ .smem, ⟨0, _⟩ => ⟨S1, .f32⟩
  | _, _ => ⟨S16x1x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![61], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_210 : BitVec 32 := 0#32
  let c39_i32_211 : BitVec 32 := 39#32
  let v661 : BitVec 32 := Scalar.addi c0_i32_210 c39_i32_211
  let c1_i32_212 : BitVec 32 := 1#32
  ⟨c0_i32_210, v661, c1_i32_212⟩
def k0_mult1 (k0_t1 : Fin k0_t1_loop.trips) : BitVec 32 :=
  let c128_i32_216 : BitVec 32 := 128#32
  let c0_i32_215 : BitVec 32 := 0#32
  let c0_i32_210 : BitVec 32 := 0#32
  let c1_i32_212 : BitVec 32 := 1#32
  let arg8 : BitVec 32 := Scf.iv c0_i32_210 c1_i32_212 k0_t1
  let c1_i32_214 : BitVec 32 := 1#32
  let v662 : BitVec 32 := Scalar.muli arg8 c1_i32_214
  let v663 : BitVec 32 := Scalar.addi c0_i32_215 v662
  let v664 : BitVec 32 := Scalar.muli c128_i32_216 v663
  v664
def k0_off1 (k0_t1 : Fin k0_t1_loop.trips) : Fin 2 → Nat :=
  let c0_217 : Index := 0#32
  let c128_i32_216 : BitVec 32 := 128#32
  let c0_i32_215 : BitVec 32 := 0#32
  let c0_i32_210 : BitVec 32 := 0#32
  let c1_i32_212 : BitVec 32 := 1#32
  let arg8 : BitVec 32 := Scf.iv c0_i32_210 c1_i32_212 k0_t1
  let c1_i32_214 : BitVec 32 := 1#32
  let v662 : BitVec 32 := Scalar.muli arg8 c1_i32_214
  let v663 : BitVec 32 := Scalar.addi c0_i32_215 v662
  let v664 : BitVec 32 := Scalar.muli c128_i32_216 v663
  let v665 : BitVec 32 := v664
  let v666 : Index := Scalar.indexCast v665
  ![0, v666.toNat]
def k0_mult2 (k0_t1 : Fin k0_t1_loop.trips) : BitVec 32 :=
  let c4992_i32 : BitVec 32 := 4992#32
  let c128_i32_218 : BitVec 32 := 128#32
  let c0_i32_215 : BitVec 32 := 0#32
  let c0_i32_210 : BitVec 32 := 0#32
  let c1_i32_212 : BitVec 32 := 1#32
  let arg8 : BitVec 32 := Scf.iv c0_i32_210 c1_i32_212 k0_t1
  let c1_i32_214 : BitVec 32 := 1#32
  let v662 : BitVec 32 := Scalar.muli arg8 c1_i32_214
  let v663 : BitVec 32 := Scalar.addi c0_i32_215 v662
  let v669 : BitVec 32 := Scalar.muli c128_i32_218 v663
  let v670 : BitVec 32 := Scalar.addi c4992_i32 v669
  v670
def k0_off2 (k0_t1 : Fin k0_t1_loop.trips) : Fin 2 → Nat :=
  let c0_219 : Index := 0#32
  let c4992_i32 : BitVec 32 := 4992#32
  let c128_i32_218 : BitVec 32 := 128#32
  let c0_i32_215 : BitVec 32 := 0#32
  let c0_i32_210 : BitVec 32 := 0#32
  let c1_i32_212 : BitVec 32 := 1#32
  let arg8 : BitVec 32 := Scf.iv c0_i32_210 c1_i32_212 k0_t1
  let c1_i32_214 : BitVec 32 := 1#32
  let v662 : BitVec 32 := Scalar.muli arg8 c1_i32_214
  let v663 : BitVec 32 := Scalar.addi c0_i32_215 v662
  let v669 : BitVec 32 := Scalar.muli c128_i32_218 v663
  let v670 : BitVec 32 := Scalar.addi c4992_i32 v669
  let v671 : BitVec 32 := v670
  let v672 : Index := Scalar.indexCast v671
  ![0, v672.toNat]
def k0_mult3 (k0_t1 : Fin k0_t1_loop.trips) : BitVec 32 :=
  let c256_i32 : BitVec 32 := 256#32
  let c0_i32_215 : BitVec 32 := 0#32
  let c0_i32_210 : BitVec 32 := 0#32
  let c1_i32_212 : BitVec 32 := 1#32
  let arg8 : BitVec 32 := Scf.iv c0_i32_210 c1_i32_212 k0_t1
  let c1_i32_214 : BitVec 32 := 1#32
  let v662 : BitVec 32 := Scalar.muli arg8 c1_i32_214
  let v663 : BitVec 32 := Scalar.addi c0_i32_215 v662
  let v869 : BitVec 32 := Scalar.muli c256_i32 v663
  v869
def k0_off3 (k0_t1 : Fin k0_t1_loop.trips) : Fin 2 → Nat :=
  let c0_278 : Index := 0#32
  let c256_i32 : BitVec 32 := 256#32
  let c0_i32_215 : BitVec 32 := 0#32
  let c0_i32_210 : BitVec 32 := 0#32
  let c1_i32_212 : BitVec 32 := 1#32
  let arg8 : BitVec 32 := Scf.iv c0_i32_210 c1_i32_212 k0_t1
  let c1_i32_214 : BitVec 32 := 1#32
  let v662 : BitVec 32 := Scalar.muli arg8 c1_i32_214
  let v663 : BitVec 32 := Scalar.addi c0_i32_215 v662
  let v869 : BitVec 32 := Scalar.muli c256_i32 v663
  let v870 : BitVec 32 := v869
  let v871 : Index := Scalar.indexCast v870
  ![0, v871.toNat]
@[reducible] def k0_t2_loop : Scf.Loop 32 :=
  let c0_i32_39 : BitVec 32 := 0#32
  let c39_i32 : BitVec 32 := 39#32
  let v134 : BitVec 32 := Scalar.addi c0_i32_39 c39_i32
  let c1_i32_40 : BitVec 32 := 1#32
  ⟨c0_i32_39, v134, c1_i32_40⟩
def k0_mult4 (k0_t2 : Fin k0_t2_loop.trips) : BitVec 32 :=
  let c0_i32_39 : BitVec 32 := 0#32
  let c1_i32_40 : BitVec 32 := 1#32
  let arg8 : BitVec 32 := Scf.iv c0_i32_39 c1_i32_40 k0_t2
  let c4_i32 : BitVec 32 := 4#32
  let v661 : BitVec 32 := Scalar.muli arg8 c4_i32
  let c0_i32_210 : BitVec 32 := 0#32
  let v662 : BitVec 32 := Scalar.addi v661 c0_i32_210
  let c32_i32 : BitVec 32 := 32#32
  let v663 : BitVec 32 := Scalar.muli v662 c32_i32
  v663
def k0_off4 (k0_t2 : Fin k0_t2_loop.trips) (c0_i32_210 : BitVec 32) : Fin 2 → Nat :=
  let c0_i32_39 : BitVec 32 := 0#32
  let c1_i32_40 : BitVec 32 := 1#32
  let arg8 : BitVec 32 := Scf.iv c0_i32_39 c1_i32_40 k0_t2
  let c4_i32 : BitVec 32 := 4#32
  let v661 : BitVec 32 := Scalar.muli arg8 c4_i32
  let v662 : BitVec 32 := Scalar.addi v661 c0_i32_210
  let c32_i32 : BitVec 32 := 32#32
  let v663 : BitVec 32 := Scalar.muli v662 c32_i32
  let v664 : BitVec 32 := v663
  let v665 : Index := Scalar.indexCast v664
  let c0_211 : Index := 0#32
  ![v665.toNat, 0]
def k0_mult5 (k0_t2 : Fin k0_t2_loop.trips) : BitVec 32 :=
  let c4992_i32 : BitVec 32 := 4992#32
  let c0_i32_39 : BitVec 32 := 0#32
  let c1_i32_40 : BitVec 32 := 1#32
  let arg8 : BitVec 32 := Scf.iv c0_i32_39 c1_i32_40 k0_t2
  let c4_i32 : BitVec 32 := 4#32
  let v661 : BitVec 32 := Scalar.muli arg8 c4_i32
  let c0_i32_210 : BitVec 32 := 0#32
  let v662 : BitVec 32 := Scalar.addi v661 c0_i32_210
  let c32_i32 : BitVec 32 := 32#32
  let v663 : BitVec 32 := Scalar.muli v662 c32_i32
  let v664 : BitVec 32 := v663
  let v667 : BitVec 32 := Scalar.addi c4992_i32 v664
  v667
def k0_off5 (k0_t2 : Fin k0_t2_loop.trips) (c0_i32_210 : BitVec 32) : Fin 2 → Nat :=
  let c4992_i32 : BitVec 32 := 4992#32
  let c0_i32_39 : BitVec 32 := 0#32
  let c1_i32_40 : BitVec 32 := 1#32
  let arg8 : BitVec 32 := Scf.iv c0_i32_39 c1_i32_40 k0_t2
  let c4_i32 : BitVec 32 := 4#32
  let v661 : BitVec 32 := Scalar.muli arg8 c4_i32
  let v662 : BitVec 32 := Scalar.addi v661 c0_i32_210
  let c32_i32 : BitVec 32 := 32#32
  let v663 : BitVec 32 := Scalar.muli v662 c32_i32
  let v664 : BitVec 32 := v663
  let v667 : BitVec 32 := Scalar.addi c4992_i32 v664
  let v668 : BitVec 32 := v667
  let v669 : Index := Scalar.indexCast v668
  let c0_212 : Index := 0#32
  ![v669.toNat, 0]
def k0_off6 (k0_t2 : Fin k0_t2_loop.trips) (c0_i32_210 : BitVec 32) (c0_i32_234 : BitVec 32) : Fin 3 → Nat :=
  let c0_235 : Index := 0#32
  let c2_i32_233 : BitVec 32 := 2#32
  let c0_i32_39 : BitVec 32 := 0#32
  let c1_i32_40 : BitVec 32 := 1#32
  let arg8 : BitVec 32 := Scf.iv c0_i32_39 c1_i32_40 k0_t2
  let c4_i32 : BitVec 32 := 4#32
  let v661 : BitVec 32 := Scalar.muli arg8 c4_i32
  let v662 : BitVec 32 := Scalar.addi v661 c0_i32_210
  let v754 : BitVec 32 := Scalar.muli c2_i32_233 v662
  let v755 : BitVec 32 := Scalar.addi v754 c0_i32_234
  let v757 : Index := Scalar.indexCast v755
  let c0_236 : Index := 0#32
  ![0, Nat.mul 2 v757.toNat, 0]
def k0_off7 (k0_t2 : Fin k0_t2_loop.trips) (c0_i32_210 : BitVec 32) (c0_i32_242 : BitVec 32) : Fin 3 → Nat :=
  let c1_243 : Index := 1#32
  let c2_i32_241 : BitVec 32 := 2#32
  let c0_i32_39 : BitVec 32 := 0#32
  let c1_i32_40 : BitVec 32 := 1#32
  let arg8 : BitVec 32 := Scf.iv c0_i32_39 c1_i32_40 k0_t2
  let c4_i32 : BitVec 32 := 4#32
  let v661 : BitVec 32 := Scalar.muli arg8 c4_i32
  let v662 : BitVec 32 := Scalar.addi v661 c0_i32_210
  let v774 : BitVec 32 := Scalar.muli c2_i32_241 v662
  let v775 : BitVec 32 := Scalar.addi v774 c0_i32_242
  let v777 : Index := Scalar.indexCast v775
  let c0_244 : Index := 0#32
  ![1, Nat.mul 2 v777.toNat, 0]
def k0_mult6 (k0_t2 : Fin k0_t2_loop.trips) : BitVec 32 :=
  let c0_i32_39 : BitVec 32 := 0#32
  let c1_i32_40 : BitVec 32 := 1#32
  let arg8 : BitVec 32 := Scf.iv c0_i32_39 c1_i32_40 k0_t2
  let c4_i32_249 : BitVec 32 := 4#32
  let v794 : BitVec 32 := Scalar.muli arg8 c4_i32_249
  let c1_i32_250 : BitVec 32 := 1#32
  let v795 : BitVec 32 := Scalar.addi v794 c1_i32_250
  let c32_i32_251 : BitVec 32 := 32#32
  let v796 : BitVec 32 := Scalar.muli v795 c32_i32_251
  v796
def k0_mult7 (k0_t2 : Fin k0_t2_loop.trips) : BitVec 32 :=
  let c4992_i32_253 : BitVec 32 := 4992#32
  let c0_i32_39 : BitVec 32 := 0#32
  let c1_i32_40 : BitVec 32 := 1#32
  let arg8 : BitVec 32 := Scf.iv c0_i32_39 c1_i32_40 k0_t2
  let c4_i32_249 : BitVec 32 := 4#32
  let v794 : BitVec 32 := Scalar.muli arg8 c4_i32_249
  let c1_i32_250 : BitVec 32 := 1#32
  let v795 : BitVec 32 := Scalar.addi v794 c1_i32_250
  let c32_i32_251 : BitVec 32 := 32#32
  let v796 : BitVec 32 := Scalar.muli v795 c32_i32_251
  let v797 : BitVec 32 := v796
  let v800 : BitVec 32 := Scalar.addi c4992_i32_253 v797
  v800
def k0_mult8 (k0_t2 : Fin k0_t2_loop.trips) : BitVec 32 :=
  let c0_i32_39 : BitVec 32 := 0#32
  let c1_i32_40 : BitVec 32 := 1#32
  let arg8 : BitVec 32 := Scf.iv c0_i32_39 c1_i32_40 k0_t2
  let c4_i32_302 : BitVec 32 := 4#32
  let v927 : BitVec 32 := Scalar.muli arg8 c4_i32_302
  let c2_i32_303 : BitVec 32 := 2#32
  let v928 : BitVec 32 := Scalar.addi v927 c2_i32_303
  let c32_i32_304 : BitVec 32 := 32#32
  let v929 : BitVec 32 := Scalar.muli v928 c32_i32_304
  v929
def k0_mult9 (k0_t2 : Fin k0_t2_loop.trips) : BitVec 32 :=
  let c4992_i32_306 : BitVec 32 := 4992#32
  let c0_i32_39 : BitVec 32 := 0#32
  let c1_i32_40 : BitVec 32 := 1#32
  let arg8 : BitVec 32 := Scf.iv c0_i32_39 c1_i32_40 k0_t2
  let c4_i32_302 : BitVec 32 := 4#32
  let v927 : BitVec 32 := Scalar.muli arg8 c4_i32_302
  let c2_i32_303 : BitVec 32 := 2#32
  let v928 : BitVec 32 := Scalar.addi v927 c2_i32_303
  let c32_i32_304 : BitVec 32 := 32#32
  let v929 : BitVec 32 := Scalar.muli v928 c32_i32_304
  let v930 : BitVec 32 := v929
  let v933 : BitVec 32 := Scalar.addi c4992_i32_306 v930
  v933
def k0_mult10 (k0_t2 : Fin k0_t2_loop.trips) : BitVec 32 :=
  let c0_i32_39 : BitVec 32 := 0#32
  let c1_i32_40 : BitVec 32 := 1#32
  let arg8 : BitVec 32 := Scf.iv c0_i32_39 c1_i32_40 k0_t2
  let c4_i32_355 : BitVec 32 := 4#32
  let v1060 : BitVec 32 := Scalar.muli arg8 c4_i32_355
  let c3_i32_356 : BitVec 32 := 3#32
  let v1061 : BitVec 32 := Scalar.addi v1060 c3_i32_356
  let c32_i32_357 : BitVec 32 := 32#32
  let v1062 : BitVec 32 := Scalar.muli v1061 c32_i32_357
  v1062
def k0_mult11 (k0_t2 : Fin k0_t2_loop.trips) : BitVec 32 :=
  let c4992_i32_359 : BitVec 32 := 4992#32
  let c0_i32_39 : BitVec 32 := 0#32
  let c1_i32_40 : BitVec 32 := 1#32
  let arg8 : BitVec 32 := Scf.iv c0_i32_39 c1_i32_40 k0_t2
  let c4_i32_355 : BitVec 32 := 4#32
  let v1060 : BitVec 32 := Scalar.muli arg8 c4_i32_355
  let c3_i32_356 : BitVec 32 := 3#32
  let v1061 : BitVec 32 := Scalar.addi v1060 c3_i32_356
  let c32_i32_357 : BitVec 32 := 32#32
  let v1062 : BitVec 32 := Scalar.muli v1061 c32_i32_357
  let v1063 : BitVec 32 := v1062
  let v1066 : BitVec 32 := Scalar.addi c4992_i32_359 v1063
  v1066
def k0_mult12 (k0_t2 : Fin k0_t2_loop.trips) : BitVec 32 :=
  let c256_i32 : BitVec 32 := 256#32
  let c0_i32_39 : BitVec 32 := 0#32
  let c1_i32_40 : BitVec 32 := 1#32
  let arg8 : BitVec 32 := Scf.iv c0_i32_39 c1_i32_40 k0_t2
  let v1196 : BitVec 32 := Scalar.muli c256_i32 arg8
  v1196
def k0_off8 (k0_t2 : Fin k0_t2_loop.trips) : Fin 2 → Nat :=
  let c0_408 : Index := 0#32
  let c256_i32 : BitVec 32 := 256#32
  let c0_i32_39 : BitVec 32 := 0#32
  let c1_i32_40 : BitVec 32 := 1#32
  let arg8 : BitVec 32 := Scf.iv c0_i32_39 c1_i32_40 k0_t2
  let v1196 : BitVec 32 := Scalar.muli c256_i32 arg8
  let v1197 : BitVec 32 := v1196
  let v1198 : Index := Scalar.indexCast v1197
  ![0, v1198.toNat]
@[reducible] def k0_t3_loop : Scf.Loop 32 :=
  let c0_i32_145 : BitVec 32 := 0#32
  let c39_i32_146 : BitVec 32 := 39#32
  let v463 : BitVec 32 := Scalar.addi c0_i32_145 c39_i32_146
  let c1_i32_147 : BitVec 32 := 1#32
  ⟨c0_i32_145, v463, c1_i32_147⟩
def k0_mult13 (k0_t3 : Fin k0_t3_loop.trips) : BitVec 32 :=
  let c0_i32_145 : BitVec 32 := 0#32
  let c1_i32_147 : BitVec 32 := 1#32
  let arg8 : BitVec 32 := Scf.iv c0_i32_145 c1_i32_147 k0_t3
  let c4_i32 : BitVec 32 := 4#32
  let v661 : BitVec 32 := Scalar.muli arg8 c4_i32
  let c0_i32_210 : BitVec 32 := 0#32
  let v662 : BitVec 32 := Scalar.addi v661 c0_i32_210
  let c32_i32 : BitVec 32 := 32#32
  let v663 : BitVec 32 := Scalar.muli v662 c32_i32
  v663
def k0_off9 (k0_t3 : Fin k0_t3_loop.trips) (c0_i32_210 : BitVec 32) : Fin 2 → Nat :=
  let c0_i32_145 : BitVec 32 := 0#32
  let c1_i32_147 : BitVec 32 := 1#32
  let arg8 : BitVec 32 := Scf.iv c0_i32_145 c1_i32_147 k0_t3
  let c4_i32 : BitVec 32 := 4#32
  let v661 : BitVec 32 := Scalar.muli arg8 c4_i32
  let v662 : BitVec 32 := Scalar.addi v661 c0_i32_210
  let c32_i32 : BitVec 32 := 32#32
  let v663 : BitVec 32 := Scalar.muli v662 c32_i32
  let v664 : BitVec 32 := v663
  let v665 : Index := Scalar.indexCast v664
  let c128 : Index := 128#32
  ![v665.toNat, 128]
def k0_mult14 (k0_t3 : Fin k0_t3_loop.trips) : BitVec 32 :=
  let c4992_i32 : BitVec 32 := 4992#32
  let c0_i32_145 : BitVec 32 := 0#32
  let c1_i32_147 : BitVec 32 := 1#32
  let arg8 : BitVec 32 := Scf.iv c0_i32_145 c1_i32_147 k0_t3
  let c4_i32 : BitVec 32 := 4#32
  let v661 : BitVec 32 := Scalar.muli arg8 c4_i32
  let c0_i32_210 : BitVec 32 := 0#32
  let v662 : BitVec 32 := Scalar.addi v661 c0_i32_210
  let c32_i32 : BitVec 32 := 32#32
  let v663 : BitVec 32 := Scalar.muli v662 c32_i32
  let v664 : BitVec 32 := v663
  let v667 : BitVec 32 := Scalar.addi c4992_i32 v664
  v667
def k0_off10 (k0_t3 : Fin k0_t3_loop.trips) (c0_i32_210 : BitVec 32) : Fin 2 → Nat :=
  let c4992_i32 : BitVec 32 := 4992#32
  let c0_i32_145 : BitVec 32 := 0#32
  let c1_i32_147 : BitVec 32 := 1#32
  let arg8 : BitVec 32 := Scf.iv c0_i32_145 c1_i32_147 k0_t3
  let c4_i32 : BitVec 32 := 4#32
  let v661 : BitVec 32 := Scalar.muli arg8 c4_i32
  let v662 : BitVec 32 := Scalar.addi v661 c0_i32_210
  let c32_i32 : BitVec 32 := 32#32
  let v663 : BitVec 32 := Scalar.muli v662 c32_i32
  let v664 : BitVec 32 := v663
  let v667 : BitVec 32 := Scalar.addi c4992_i32 v664
  let v668 : BitVec 32 := v667
  let v669 : Index := Scalar.indexCast v668
  let c128_211 : Index := 128#32
  ![v669.toNat, 128]
def k0_off11 (k0_t3 : Fin k0_t3_loop.trips) (c0_i32_210 : BitVec 32) (c0_i32_233 : BitVec 32) : Fin 3 → Nat :=
  let c0_234 : Index := 0#32
  let c2_i32_232 : BitVec 32 := 2#32
  let c0_i32_145 : BitVec 32 := 0#32
  let c1_i32_147 : BitVec 32 := 1#32
  let arg8 : BitVec 32 := Scf.iv c0_i32_145 c1_i32_147 k0_t3
  let c4_i32 : BitVec 32 := 4#32
  let v661 : BitVec 32 := Scalar.muli arg8 c4_i32
  let v662 : BitVec 32 := Scalar.addi v661 c0_i32_210
  let v754 : BitVec 32 := Scalar.muli c2_i32_232 v662
  let v755 : BitVec 32 := Scalar.addi v754 c0_i32_233
  let v757 : Index := Scalar.indexCast v755
  let c0_235 : Index := 0#32
  ![0, Nat.mul 2 v757.toNat, 0]
def k0_off12 (k0_t3 : Fin k0_t3_loop.trips) (c0_i32_210 : BitVec 32) (c0_i32_241 : BitVec 32) : Fin 3 → Nat :=
  let c1_242 : Index := 1#32
  let c2_i32_240 : BitVec 32 := 2#32
  let c0_i32_145 : BitVec 32 := 0#32
  let c1_i32_147 : BitVec 32 := 1#32
  let arg8 : BitVec 32 := Scf.iv c0_i32_145 c1_i32_147 k0_t3
  let c4_i32 : BitVec 32 := 4#32
  let v661 : BitVec 32 := Scalar.muli arg8 c4_i32
  let v662 : BitVec 32 := Scalar.addi v661 c0_i32_210
  let v774 : BitVec 32 := Scalar.muli c2_i32_240 v662
  let v775 : BitVec 32 := Scalar.addi v774 c0_i32_241
  let v777 : Index := Scalar.indexCast v775
  let c0_243 : Index := 0#32
  ![1, Nat.mul 2 v777.toNat, 0]
def k0_mult15 (k0_t3 : Fin k0_t3_loop.trips) : BitVec 32 :=
  let c0_i32_145 : BitVec 32 := 0#32
  let c1_i32_147 : BitVec 32 := 1#32
  let arg8 : BitVec 32 := Scf.iv c0_i32_145 c1_i32_147 k0_t3
  let c4_i32_248 : BitVec 32 := 4#32
  let v794 : BitVec 32 := Scalar.muli arg8 c4_i32_248
  let c1_i32_249 : BitVec 32 := 1#32
  let v795 : BitVec 32 := Scalar.addi v794 c1_i32_249
  let c32_i32_250 : BitVec 32 := 32#32
  let v796 : BitVec 32 := Scalar.muli v795 c32_i32_250
  v796
def k0_mult16 (k0_t3 : Fin k0_t3_loop.trips) : BitVec 32 :=
  let c4992_i32_252 : BitVec 32 := 4992#32
  let c0_i32_145 : BitVec 32 := 0#32
  let c1_i32_147 : BitVec 32 := 1#32
  let arg8 : BitVec 32 := Scf.iv c0_i32_145 c1_i32_147 k0_t3
  let c4_i32_248 : BitVec 32 := 4#32
  let v794 : BitVec 32 := Scalar.muli arg8 c4_i32_248
  let c1_i32_249 : BitVec 32 := 1#32
  let v795 : BitVec 32 := Scalar.addi v794 c1_i32_249
  let c32_i32_250 : BitVec 32 := 32#32
  let v796 : BitVec 32 := Scalar.muli v795 c32_i32_250
  let v797 : BitVec 32 := v796
  let v800 : BitVec 32 := Scalar.addi c4992_i32_252 v797
  v800
def k0_mult17 (k0_t3 : Fin k0_t3_loop.trips) : BitVec 32 :=
  let c0_i32_145 : BitVec 32 := 0#32
  let c1_i32_147 : BitVec 32 := 1#32
  let arg8 : BitVec 32 := Scf.iv c0_i32_145 c1_i32_147 k0_t3
  let c4_i32_301 : BitVec 32 := 4#32
  let v927 : BitVec 32 := Scalar.muli arg8 c4_i32_301
  let c2_i32_302 : BitVec 32 := 2#32
  let v928 : BitVec 32 := Scalar.addi v927 c2_i32_302
  let c32_i32_303 : BitVec 32 := 32#32
  let v929 : BitVec 32 := Scalar.muli v928 c32_i32_303
  v929
def k0_mult18 (k0_t3 : Fin k0_t3_loop.trips) : BitVec 32 :=
  let c4992_i32_305 : BitVec 32 := 4992#32
  let c0_i32_145 : BitVec 32 := 0#32
  let c1_i32_147 : BitVec 32 := 1#32
  let arg8 : BitVec 32 := Scf.iv c0_i32_145 c1_i32_147 k0_t3
  let c4_i32_301 : BitVec 32 := 4#32
  let v927 : BitVec 32 := Scalar.muli arg8 c4_i32_301
  let c2_i32_302 : BitVec 32 := 2#32
  let v928 : BitVec 32 := Scalar.addi v927 c2_i32_302
  let c32_i32_303 : BitVec 32 := 32#32
  let v929 : BitVec 32 := Scalar.muli v928 c32_i32_303
  let v930 : BitVec 32 := v929
  let v933 : BitVec 32 := Scalar.addi c4992_i32_305 v930
  v933
def k0_mult19 (k0_t3 : Fin k0_t3_loop.trips) : BitVec 32 :=
  let c0_i32_145 : BitVec 32 := 0#32
  let c1_i32_147 : BitVec 32 := 1#32
  let arg8 : BitVec 32 := Scf.iv c0_i32_145 c1_i32_147 k0_t3
  let c4_i32_354 : BitVec 32 := 4#32
  let v1060 : BitVec 32 := Scalar.muli arg8 c4_i32_354
  let c3_i32_355 : BitVec 32 := 3#32
  let v1061 : BitVec 32 := Scalar.addi v1060 c3_i32_355
  let c32_i32_356 : BitVec 32 := 32#32
  let v1062 : BitVec 32 := Scalar.muli v1061 c32_i32_356
  v1062
def k0_mult20 (k0_t3 : Fin k0_t3_loop.trips) : BitVec 32 :=
  let c4992_i32_358 : BitVec 32 := 4992#32
  let c0_i32_145 : BitVec 32 := 0#32
  let c1_i32_147 : BitVec 32 := 1#32
  let arg8 : BitVec 32 := Scf.iv c0_i32_145 c1_i32_147 k0_t3
  let c4_i32_354 : BitVec 32 := 4#32
  let v1060 : BitVec 32 := Scalar.muli arg8 c4_i32_354
  let c3_i32_355 : BitVec 32 := 3#32
  let v1061 : BitVec 32 := Scalar.addi v1060 c3_i32_355
  let c32_i32_356 : BitVec 32 := 32#32
  let v1062 : BitVec 32 := Scalar.muli v1061 c32_i32_356
  let v1063 : BitVec 32 := v1062
  let v1066 : BitVec 32 := Scalar.addi c4992_i32_358 v1063
  v1066
def k0_mult21 (k0_t3 : Fin k0_t3_loop.trips) : BitVec 32 :=
  let c256_i32 : BitVec 32 := 256#32
  let c0_i32_145 : BitVec 32 := 0#32
  let c1_i32_147 : BitVec 32 := 1#32
  let arg8 : BitVec 32 := Scf.iv c0_i32_145 c1_i32_147 k0_t3
  let v1196 : BitVec 32 := Scalar.muli c256_i32 arg8
  v1196
def k0_off13 (k0_t3 : Fin k0_t3_loop.trips) : Fin 2 → Nat :=
  let c0_407 : Index := 0#32
  let c256_i32 : BitVec 32 := 256#32
  let c0_i32_145 : BitVec 32 := 0#32
  let c1_i32_147 : BitVec 32 := 1#32
  let arg8 : BitVec 32 := Scf.iv c0_i32_145 c1_i32_147 k0_t3
  let v1196 : BitVec 32 := Scalar.muli c256_i32 arg8
  let v1197 : BitVec 32 := v1196
  let v1198 : Index := Scalar.indexCast v1197
  ![0, v1198.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x9984 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9984x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S624x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S16x1x9984 : Shape := ⟨3, ![16, 1, 9984]⟩
abbrev S9984x15488 : Shape := ⟨2, ![9984, 15488]⟩
abbrev S624x30976 : Shape := ⟨2, ![624, 30976]⟩
abbrev S_ : Shape := ⟨0, ![]⟩
abbrev S624x15488 : Shape := ⟨2, ![624, 15488]⟩
abbrev S624x16x15488 : Shape := ⟨3, ![624, 16, 15488]⟩
abbrev S624x1x15488 : Shape := ⟨3, ![624, 1, 15488]⟩
abbrev S16x9984 : Shape := ⟨2, ![16, 9984]⟩
abbrev S16x15488 : Shape := ⟨2, ![16, 15488]⟩
abbrev S16x15488x1 : Shape := ⟨3, ![16, 15488, 1]⟩
abbrev S16x15488x2 : Shape := ⟨3, ![16, 15488, 2]⟩
abbrev S16x30976 : Shape := ⟨2, ![16, 30976]⟩

abbrev nBuf : Space → Nat
  | .hbm => 94
  | .vmem => 2
  | .smem => 0
  | _ => 0

abbrev bufTy : (tb : Table) → Fin (tcTables nBuf tb) → BufTy
  | .hbm, ⟨0, _⟩ => ⟨S16x1x9984, .bf16⟩
  | .hbm, ⟨1, _⟩ => ⟨S9984x15488, .i8⟩
  | .hbm, ⟨2, _⟩ => ⟨S624x30976, .fp8e4m3⟩
  | .hbm, ⟨3, _⟩ => ⟨S_, .f32⟩
  | .hbm, ⟨4, _⟩ => ⟨S9984x15488, .i32⟩
  | .hbm, ⟨5, _⟩ => ⟨S_, .i32⟩
  | .hbm, ⟨6, _⟩ => ⟨S9984x15488, .i32⟩
  | .hbm, ⟨7, _⟩ => ⟨S9984x15488, .i32⟩
  | .hbm, ⟨8, _⟩ => ⟨S_, .i32⟩
  | .hbm, ⟨9, _⟩ => ⟨S9984x15488, .i32⟩
  | .hbm, ⟨10, _⟩ => ⟨S9984x15488, .i32⟩
  | .hbm, ⟨11, _⟩ => ⟨S624x30976, .bf16⟩
  | .hbm, ⟨12, _⟩ => ⟨S624x15488, .bf16⟩
  | .hbm, ⟨13, _⟩ => ⟨S_, .i32⟩
  | .hbm, ⟨14, _⟩ => ⟨S9984x15488, .i32⟩
  | .hbm, ⟨15, _⟩ => ⟨S9984x15488, .i32⟩
  | .hbm, ⟨16, _⟩ => ⟨S_, .i32⟩
  | .hbm, ⟨17, _⟩ => ⟨S9984x15488, .i32⟩
  | .hbm, ⟨18, _⟩ => ⟨S9984x15488, .i32⟩
  | .hbm, ⟨19, _⟩ => ⟨S_, .i32⟩
  | .hbm, ⟨20, _⟩ => ⟨S9984x15488, .i32⟩
  | .hbm, ⟨21, _⟩ => ⟨S9984x15488, .i32⟩
  | .hbm, ⟨22, _⟩ => ⟨S_, .i32⟩
  | .hbm, ⟨23, _⟩ => ⟨S9984x15488, .i32⟩
  | .hbm, ⟨24, _⟩ => ⟨S9984x15488, .i32⟩
  | .hbm, ⟨25, _⟩ => ⟨S_, .i32⟩
  | .hbm, ⟨26, _⟩ => ⟨S9984x15488, .i32⟩
  | .hbm, ⟨27, _⟩ => ⟨S9984x15488, .i32⟩
  | .hbm, ⟨28, _⟩ => ⟨S_, .i32⟩
  | .hbm, ⟨29, _⟩ => ⟨S9984x15488, .i32⟩
  | .hbm, ⟨30, _⟩ => ⟨S9984x15488, .i1⟩
  | .hbm, ⟨31, _⟩ => ⟨S_, .i32⟩
  | .hbm, ⟨32, _⟩ => ⟨S_, .i32⟩
  | .hbm, ⟨33, _⟩ => ⟨S9984x15488, .i32⟩
  | .hbm, ⟨34, _⟩ => ⟨S9984x15488, .i32⟩
  | .hbm, ⟨35, _⟩ => ⟨S9984x15488, .i32⟩
  | .hbm, ⟨36, _⟩ => ⟨S_, .i32⟩
  | .hbm, ⟨37, _⟩ => ⟨S9984x15488, .i32⟩
  | .hbm, ⟨38, _⟩ => ⟨S9984x15488, .i1⟩
  | .hbm, ⟨39, _⟩ => ⟨S9984x15488, .i32⟩
  | .hbm, ⟨40, _⟩ => ⟨S9984x15488, .i32⟩
  | .hbm, ⟨41, _⟩ => ⟨S9984x15488, .i16⟩
  | .hbm, ⟨42, _⟩ => ⟨S9984x15488, .bf16⟩
  | .hbm, ⟨43, _⟩ => ⟨S624x16x15488, .bf16⟩
  | .hbm, ⟨44, _⟩ => ⟨S624x1x15488, .bf16⟩
  | .hbm, ⟨45, _⟩ => ⟨S624x16x15488, .bf16⟩
  | .hbm, ⟨46, _⟩ => ⟨S624x16x15488, .bf16⟩
  | .hbm, ⟨47, _⟩ => ⟨S9984x15488, .bf16⟩
  | .hbm, ⟨48, _⟩ => ⟨S624x15488, .bf16⟩
  | .hbm, ⟨49, _⟩ => ⟨S_, .i32⟩
  | .hbm, ⟨50, _⟩ => ⟨S9984x15488, .i32⟩
  | .hbm, ⟨51, _⟩ => ⟨S9984x15488, .i32⟩
  | .hbm, ⟨52, _⟩ => ⟨S_, .i32⟩
  | .hbm, ⟨53, _⟩ => ⟨S9984x15488, .i32⟩
  | .hbm, ⟨54, _⟩ => ⟨S9984x15488, .i32⟩
  | .hbm, ⟨55, _⟩ => ⟨S_, .i32⟩
  | .hbm, ⟨56, _⟩ => ⟨S9984x15488, .i32⟩
  | .hbm, ⟨57, _⟩ => ⟨S9984x15488, .i32⟩
  | .hbm, ⟨58, _⟩ => ⟨S_, .i32⟩
  | .hbm, ⟨59, _⟩ => ⟨S9984x15488, .i32⟩
  | .hbm, ⟨60, _⟩ => ⟨S9984x15488, .i32⟩
  | .hbm, ⟨61, _⟩ => ⟨S_, .i32⟩
  | .hbm, ⟨62, _⟩ => ⟨S9984x15488, .i32⟩
  | .hbm, ⟨63, _⟩ => ⟨S9984x15488, .i32⟩
  | .hbm, ⟨64, _⟩ => ⟨S_, .i32⟩
  | .hbm, ⟨65, _⟩ => ⟨S9984x15488, .i32⟩
  | .hbm, ⟨66, _⟩ => ⟨S9984x15488, .i1⟩
  | .hbm, ⟨67, _⟩ => ⟨S_, .i32⟩
  | .hbm, ⟨68, _⟩ => ⟨S_, .i32⟩
  | .hbm, ⟨69, _⟩ => ⟨S9984x15488, .i32⟩
  | .hbm, ⟨70, _⟩ => ⟨S9984x15488, .i32⟩
  | .hbm, ⟨71, _⟩ => ⟨S9984x15488, .i32⟩
  | .hbm, ⟨72, _⟩ => ⟨S_, .i32⟩
  | .hbm, ⟨73, _⟩ => ⟨S9984x15488, .i32⟩
  | .hbm, ⟨74, _⟩ => ⟨S9984x15488, .i1⟩
  | .hbm, ⟨75, _⟩ => ⟨S9984x15488, .i32⟩
  | .hbm, ⟨76, _⟩ => ⟨S9984x15488, .i32⟩
  | .hbm, ⟨77, _⟩ => ⟨S9984x15488, .i16⟩
  | .hbm, ⟨78, _⟩ => ⟨S9984x15488, .bf16⟩
  | .hbm, ⟨79, _⟩ => ⟨S624x16x15488, .bf16⟩
  | .hbm, ⟨80, _⟩ => ⟨S624x1x15488, .bf16⟩
  | .hbm, ⟨81, _⟩ => ⟨S624x16x15488, .bf16⟩
  | .hbm, ⟨82, _⟩ => ⟨S624x16x15488, .bf16⟩
  | .hbm, ⟨83, _⟩ => ⟨S9984x15488, .bf16⟩
  | .hbm, ⟨84, _⟩ => ⟨S16x9984, .bf16⟩
  | .hbm, ⟨85, _⟩ => ⟨S16x15488, .f32⟩
  | .hbm, ⟨86, _⟩ => ⟨S16x15488, .f32⟩
  | .hbm, ⟨87, _⟩ => ⟨S16x15488x1, .f32⟩
  | .hbm, ⟨88, _⟩ => ⟨S16x15488x1, .f32⟩
  | .hbm, ⟨89, _⟩ => ⟨S16x15488x2, .f32⟩
  | .hbm, ⟨90, _⟩ => ⟨S16x30976, .f32⟩
  | .hbm, ⟨91, _⟩ => ⟨S16x30976, .f32⟩
  | .hbm, ⟨92, _⟩ => ⟨S16x30976, .f32⟩
  | .hbm, ⟨93, _⟩ => ⟨S16x30976, .bf16⟩
  | .local _ .vmem, ⟨0, _⟩ => ⟨S624x30976, .fp8e4m3⟩
  | .local _ .vmem, ⟨1, _⟩ => ⟨S624x30976, .bf16⟩
  | _, _ => ⟨S16x1x9984, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_c_8 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_9 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_c_13 : Ref sig .tc := ⟨.hbm, 58, rfl⟩
abbrev main_v38 : Ref sig .tc := ⟨.hbm, 59, rfl⟩
abbrev main_v39 : Ref sig .tc := ⟨.hbm, 60, rfl⟩
abbrev main_c_14 : Ref sig .tc := ⟨.hbm, 61, rfl⟩
abbrev main_v40 : Ref sig .tc := ⟨.hbm, 62, rfl⟩
abbrev main_v41 : Ref sig .tc := ⟨.hbm, 63, rfl⟩
abbrev main_c_15 : Ref sig .tc := ⟨.hbm, 64, rfl⟩
abbrev main_v42 : Ref sig .tc := ⟨.hbm, 65, rfl⟩
abbrev main_v43 : Ref sig .tc := ⟨.hbm, 66, rfl⟩
abbrev main_c_16 : Ref sig .tc := ⟨.hbm, 67, rfl⟩
abbrev main_c_17 : Ref sig .tc := ⟨.hbm, 68, rfl⟩
abbrev main_call2_v0 : Ref sig .tc := ⟨.hbm, 69, rfl⟩
abbrev main_call2_v1 : Ref sig .tc := ⟨.hbm, 70, rfl⟩
abbrev main_v44 : Ref sig .tc := ⟨.hbm, 71, rfl⟩
abbrev main_c_18 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S624x30976 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S624x30976 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelRun.lean ====
/-
  Hand-written, untrusted. The kernel's body as printed, run once for safety: from the five staging memrefs and the two
  scratch buffers at any contents it runs to its return and hands each back, the four inputs as they were.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The two scratch buffers, whole. -/
abbrev xsM : Memref sig .tc .vmem S16x9984 .bf16 := Memref.whole cc0_scratch0
abbrev ssM : Memref sig .tc .vmem S2x624x128 .bf16 := Memref.whole cc0_scratch1

set_option maxHeartbeats 2000000 in
/-- The body's triple: nothing is said of what it computes. -/
theorem kernelRun (c : Dev nD) (i : grid0.Coords)
    (arg1 : Memref sig .tc .smem S1 .f32) (harg1 : arg1.IsWhole) (arg2 : Memref sig .tc .vmem S16x9984 .bf16) (harg2 : arg2.IsWhole)
    (arg3 : Memref sig .tc .vmem S9984x256 .i8) (harg3 : arg3.IsWhole) (arg4 : Memref sig .tc .vmem S624x512 .fp8e4m3) (harg4 : arg4.IsWhole)
    (arg5 : Memref sig .tc .vmem S16x512 .bf16) (harg5 : arg5.IsWhole) (arg6 : Memref sig .tc .vmem S16x9984 .bf16) (harg6 : arg6.IsWhole)
    (arg7 : Memref sig .tc .vmem S2x624x128 .bf16) (harg7 : arg7.IsWhole) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d)) -∗ K ⟨⟩))
      ⊢ wp frame (wpE (defs₀ (F := F)) Variants.none c none) Set.univ
          (cc0__body i arg1 harg1 arg2 harg2 arg3 harg3 arg4 harg4 arg5 harg5 arg6 harg6 arg7 harg7) K := by
  simp only [cc0__body_eq_skeleton]; unfold cc0__body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  by_cases h1 : k0_cond1 i = 1#1
  all_goals
    sl_exec
    sl_step
    iapply Hk
    isplitl [H1]; · iexists _, _; isplitr; swap; · iexact H1
                    ipureintro; rfl
    isplitl [H2]; · iexists _, _; isplitr; swap; · iexact H2
                    ipureintro; rfl
    isplitl [H3]; · iexists _, _; isplitr; swap; · iexact H3
                    ipureintro; rfl
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    iexists _, _; isplitr; swap; · iexact H7
    ipureintro; rfl

end Cert.Kernel.Hand

end
-- ==== Proof.KernelFrame.lean ====
/-
  Hand-written, untrusted. The frame of the kernel as printed: relational proof data that say nothing of what the body
  leaves in any staging buffer (the last block of three windows overhangs its array, so a tail of words nothing names
  is read there), the scratch buffers at any contents between points, and the launch.
-/
module

public import proofs.«01_k».proof.Proof.KernelRun
public import Idealize.ShloMosaic.Lib.Pipeline.Frame
public import Idealize.ShloMosaic.Lib.Pipeline.FrameSuffix

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data: each array as the region finds it, nothing said of any staging buffer after the body. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`, and what it returns. -/
def bodyPre (c : Dev nD) (t : Fin cfg0.N) : sProp 𝕄 :=
  iprop((rdat m c).Φ t.castSucc ∗ (rdat m c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d))

theorem sound_body (c : Dev nD) (t : Fin cfg0.N) :
    bodyPre m c t ⊢ wp frame (wpE (defs₀ (F := F)) Variants.none c none) Set.univ (bodyAt0 t) (fun _ => bodyPre m c t) := by
  unfold bodyPre bodyAt0
  rw [show (rdat m c).Φ t.castSucc = Pipeline.ΦA spec0 c from rfl]
  unfold Pipeline.ΦA
  rw [scopedRest0_eq]
  simp only [← owns_whole]
  iintro ⟨⟨⟨H6, H7⟩, Hg⟩, HO, H1, H2, H3, H4, H5⟩
  iapply (kernelRun c (grid0.coords t) (st0_0 t) _ (st0_1 t) _ (st0_2 t) _ (st0_3 t) _ (st0_4 t) _ xsM _ ssM _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  isplitl [H6 H7 Hg]
  · isplitl [H6 H7]
    · isplitl [H6]; · iexact H6
      iexact H7
    iexact Hg
  isplitl [HO]; · iexact HO
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row, show (rdat m c).Φ t.succ = (rdat m c).Φ t.castSucc from rfl,
    show (rdat m c).owesAt () t.succ = (rdat m c).owesAt () t.castSucc from rfl]
  refine (show _ ⊢ bodyPre m c t from ?_).trans ((sound_body m c t).trans (wp_mono _ _ _ fun _ => ?_))
  · unfold bodyPre
    iintro ⟨HΦ, HO, H1, H2, H3, H4, H5⟩
    isplitl [HΦ]; · iexact HΦ
    isplitl [HO]; · iexact HO
    isplitl [H1]; · iexists _; iexact H1
    isplitl [H2]; · iexists _; iexact H2
    isplitl [H3]; · iexists _; iexact H3
    isplitl [H4]; · iexists _; iexact H4
    iexists _; iexact H5
  · unfold bodyPre
    iintro ⟨HΦ, HO, ⟨%d1, H1⟩, ⟨%d2, H2⟩, ⟨%d3, H3⟩, ⟨%d4, H4⟩, ⟨%d5, H5⟩⟩
    isplitl [HΦ]; · iexact HΦ
    isplitl [HO]; · iexact HO
    isplitl [H1]; · iexists d1; isplitr; · ipureintro; trivial
                    iexact H1
    isplitl [H2]; · iexists d2; isplitr; · ipureintro; trivial
                    iexact H2
    isplitl [H3]; · iexists d3; isplitr; · ipureintro; trivial
                    iexact H3
    isplitl [H4]; · iexists d4; isplitr; · ipureintro; trivial
                    iexact H4
    iexists d5; isplitr; · ipureintro; trivial
    iexact H5

/-- Every weakly fair execution terminates, every array the pipeline stages as an input and every other buffer
    at what it held when the region was entered, and every counter at zero. -/
theorem run_main : θ_run defs (onTc (τ := τ) (main (F := F))) (s₀ m ρ)
    (fun r => RDat.FramePost (cfgs 0) (rdat m) (V m) r ∧ r.2.sem = fun _ => 0) :=
  RDat.θ_run_frame cfgs (0 : Fin 1) launch0 defs₀ Variants.none (rdat m) m ρ main
    (hbody := body_obligation m) (hshare := fun c w => by unfold RDat.share; split <;> rfl) (howed := fun _ _ => rfl)
    (V := V m) (hmain := hmain m Variants.none) (hA := fun _ _ => rfl) (hΦ := fun _ _ => rfl)
    (Q' := fun r => RDat.FramePost (cfgs 0) (rdat m) (V m) r ∧ r.2.sem = fun _ => 0) (hQ' := fun _ h => h)

/-- The frame claim at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
     (h.1.arr_in c 2 rfl).trans (V_main_arg1 m c),
     (h.1.arr_in c 3 rfl).trans (V_main_arg2 m c),
     ((h.1 c).2 main_arg3 (Pipeline.mem_restRefs_of main_arg3 (by decide) (by decide))).trans (V_main_arg3 m c)⟩, h.2⟩) (run_main m ρ)

end Cert.Kernel.Hand

end
-- ==== Proof.IdealRun.lean ====
/-
  Hand-written, untrusted. The idealized kernel's body, run once for safety: from the five staging memrefs and the two
  scratch buffers at any contents it runs to its return and hands each back, the four inputs as they were.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two scratch buffers, whole. -/
abbrev xsM : Memref sig .tc .vmem S16x9984 .bf16 := Memref.whole cc0_scratch0
abbrev ssM : Memref sig .tc .vmem S2x624x128 .bf16 := Memref.whole cc0_scratch1

set_option maxHeartbeats 2000000 in
/-- The body's triple: nothing is said of what it computes. -/
theorem kernelRun (c : Dev nD) (i : grid0.Coords)
    (arg1 : Memref sig .tc .smem S1 .f32) (harg1 : arg1.IsWhole) (arg2 : Memref sig .tc .vmem S16x9984 .bf16) (harg2 : arg2.IsWhole)
    (arg3 : Memref sig .tc .vmem S9984x256 .i8) (harg3 : arg3.IsWhole) (arg4 : Memref sig .tc .vmem S624x512 .fp8e4m3) (harg4 : arg4.IsWhole)
    (arg5 : Memref sig .tc .vmem S16x512 .bf16) (harg5 : arg5.IsWhole) (arg6 : Memref sig .tc .vmem S16x9984 .bf16) (harg6 : arg6.IsWhole)
    (arg7 : Memref sig .tc .vmem S2x624x128 .bf16) (harg7 : arg7.IsWhole) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d)) -∗ K ⟨⟩))
      ⊢ wp frame (wpE (defs₀ (F := F)) Variants.none c none) Set.univ
          (cc0__body i arg1 harg1 arg2 harg2 arg3 harg3 arg4 harg4 arg5 harg5 arg6 harg6 arg7 harg7) K := by
  simp only [cc0__body_eq_skeleton]; unfold cc0__body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  by_cases h1 : k0_cond1 i = 1#1
  all_goals
    sl_exec
    sl_step
    iapply Hk
    isplitl [H1]; · iexists _, _; isplitr; swap; · iexact H1
                    ipureintro; rfl
    isplitl [H2]; · iexists _, _; isplitr; swap; · iexact H2
                    ipureintro; rfl
    isplitl [H3]; · iexists _, _; isplitr; swap; · iexact H3
                    ipureintro; rfl
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    iexists _, _; isplitr; swap; · iexact H7
    ipureintro; rfl

end Cert.KernelIdeal.Hand

end
-- ==== Proof.IdealFrame.lean ====
/-
  Hand-written, untrusted. The frame of the idealized kernel: relational proof data that say nothing of what the body
  leaves in any staging buffer (the last block of three windows overhangs its array, so a tail of words nothing names
  is read there), the scratch buffers at any contents between points, and the launch.
-/
module

public import proofs.«01_k».proof.Proof.IdealRun
public import Idealize.ShloMosaic.Lib.Pipeline.Frame
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data: each array as the region finds it, nothing said of any staging buffer after the body. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`, and what it returns. -/
def bodyPre (c : Dev nD) (t : Fin cfg0.N) : sProp 𝕄 :=
  iprop((rdat m c).Φ t.castSucc ∗ (rdat m c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d))

theorem sound_body (c : Dev nD) (t : Fin cfg0.N) :
    bodyPre m c t ⊢ wp frame (wpE (defs₀ (F := F)) Variants.none c none) Set.univ (bodyAt0 t) (fun _ => bodyPre m c t) := by
  unfold bodyPre bodyAt0
  rw [show (rdat m c).Φ t.castSucc = Pipeline.ΦA spec0 c from rfl]
  unfold Pipeline.ΦA
  rw [scopedRest0_eq]
  simp only [← owns_whole]
  iintro ⟨⟨⟨H6, H7⟩, Hg⟩, HO, H1, H2, H3, H4, H5⟩
  iapply (kernelRun c (grid0.coords t) (st0_0 t) _ (st0_1 t) _ (st0_2 t) _ (st0_3 t) _ (st0_4 t) _ xsM _ ssM _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  isplitl [H6 H7 Hg]
  · isplitl [H6 H7]
    · isplitl [H6]; · iexact H6
      iexact H7
    iexact Hg
  isplitl [HO]; · iexact HO
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row, show (rdat m c).Φ t.succ = (rdat m c).Φ t.castSucc from rfl,
    show (rdat m c).owesAt () t.succ = (rdat m c).owesAt () t.castSucc from rfl]
  refine (show _ ⊢ bodyPre m c t from ?_).trans ((sound_body m c t).trans (wp_mono _ _ _ fun _ => ?_))
  · unfold bodyPre
    iintro ⟨HΦ, HO, H1, H2, H3, H4, H5⟩
    isplitl [HΦ]; · iexact HΦ
    isplitl [HO]; · iexact HO
    isplitl [H1]; · iexists _; iexact H1
    isplitl [H2]; · iexists _; iexact H2
    isplitl [H3]; · iexists _; iexact H3
    isplitl [H4]; · iexists _; iexact H4
    iexists _; iexact H5
  · unfold bodyPre
    iintro ⟨HΦ, HO, ⟨%d1, H1⟩, ⟨%d2, H2⟩, ⟨%d3, H3⟩, ⟨%d4, H4⟩, ⟨%d5, H5⟩⟩
    isplitl [HΦ]; · iexact HΦ
    isplitl [HO]; · iexact HO
    isplitl [H1]; · iexists d1; isplitr; · ipureintro; trivial
                    iexact H1
    isplitl [H2]; · iexists d2; isplitr; · ipureintro; trivial
                    iexact H2
    isplitl [H3]; · iexists d3; isplitr; · ipureintro; trivial
                    iexact H3
    isplitl [H4]; · iexists d4; isplitr; · ipureintro; trivial
                    iexact H4
    iexists d5; isplitr; · ipureintro; trivial
    iexact H5

/-- Every weakly fair execution terminates, every array the pipeline stages as an input and every other buffer
    at what it held when the region was entered, and every counter at zero. -/
theorem run_main : θ_run defs (onTc (τ := τ) (main (F := F))) (s₀ m ρ)
    (fun r => RDat.FramePost (cfgs 0) (rdat m) (V m) r ∧ r.2.sem = fun _ => 0) :=
  RDat.θ_run_frame cfgs (0 : Fin 1) launch0 defs₀ Variants.none (rdat m) m ρ main
    (hbody := body_obligation m) (hshare := fun c w => by unfold RDat.share; split <;> rfl) (howed := fun _ _ => rfl)
    (V := V m) (hmain := hmain m Variants.none) (hA := fun _ _ => rfl) (hΦ := fun _ _ => rfl)
    (Q' := fun r => RDat.FramePost (cfgs 0) (rdat m) (V m) r ∧ r.2.sem = fun _ => 0) (hQ' := fun _ h => h)

/-- The frame claim at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
     (h.1.arr_in c 2 rfl).trans (V_main_arg1 m c),
     (h.1.arr_in c 3 rfl).trans (V_main_arg2 m c),
     ((h.1 c).2 main_arg3 (Pipeline.mem_restRefs_of main_arg3 (by decide) (by decide))).trans (V_main_arg3 m c)⟩, h.2⟩) (run_main m ρ)

end Cert.KernelIdeal.Hand

end
-- ==== Proof.ValueRun.lean ====
/-
  Hand-written, untrusted. The idealized kernel's body, run for what it computes: from the four inputs and the scratch at
  given contents it leaves in the output's staging buffer, and in the scratch that holds the activations, the contents
  the run finds. Two runs: at the first grid point, which fills that scratch, and at any other, which reads it.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
    (arg1 : Memref sig .tc .smem S1 .f32) (harg1 : arg1.IsWhole) (arg2 : Memref sig .tc .vmem S16x9984 .bf16) (harg2 : arg2.IsWhole)
    (arg3 : Memref sig .tc .vmem S9984x256 .i8) (harg3 : arg3.IsWhole) (arg4 : Memref sig .tc .vmem S624x512 .fp8e4m3) (harg4 : arg4.IsWhole)
    (arg5 : Memref sig .tc .vmem S16x512 .bf16) (harg5 : arg5.IsWhole) (arg6 : Memref sig .tc .vmem S16x9984 .bf16) (harg6 : arg6.IsWhole)
    (arg7 : Memref sig .tc .vmem S2x624x128 .bf16) (harg7 : arg7.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty)

/-- The body's resources at given contents. -/
abbrev Res (Y5 : BufTy.Contents (Elt F) arg5.view.ty) (Y6 : BufTy.Contents (Elt F) arg6.view.ty) (Y7 : BufTy.Contents (Elt F) arg7.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} Y5) ∗ (arg6.view.loc (c : Thread nD τ) ↦[arg6.view.set]{fullShare} Y6)
    ∗ (arg7.view.loc (c : Thread nD τ) ↦[arg7.view.set]{fullShare} Y7))

/-- The run at a grid point other than the first: what it leaves in the output's staging buffer and in the scale scratch. -/
def runB (h1 : ¬ k0_cond1 i = 1#1) :
    { R : BufTy.Contents (Elt F) arg5.view.ty × BufTy.Contents (Elt F) arg7.view.ty //
      ∀ K : PUnit → sProp 𝕄, iprop(Res c arg1 arg2 arg3 arg4 arg5 arg6 arg7 X1 X2 X3 X4 X5 X6 X7
          ∗ (Res c arg1 arg2 arg3 arg4 arg5 arg6 arg7 X1 X2 X3 X4 R.1 X6 R.2 -∗ K ⟨⟩))
        ⊢ wp frame (wpE (defs₀ (F := F)) Variants.none c none) Set.univ
            (cc0__body_skel i arg1 harg1 arg2 harg2 arg3 harg3 arg4 harg4 arg5 harg5 arg6 harg6 arg7 harg7) K } := by
  refine ⟨⟨?_, ?_⟩, fun K => ?run⟩
  case run =>
    unfold cc0__body_skel
    iintro ⟨⟨H1, H2, H3, H4, H5, H6, H7⟩, Hk⟩
    sl_exec
    sl_step
    iapply Hk
    sl_close

/-- The run at the first grid point. -/
def runA (h1 : k0_cond1 i = 1#1) :
    { R : BufTy.Contents (Elt F) arg5.view.ty × BufTy.Contents (Elt F) arg6.view.ty × BufTy.Contents (Elt F) arg7.view.ty //
      ∀ K : PUnit → sProp 𝕄, iprop(Res c arg1 arg2 arg3 arg4 arg5 arg6 arg7 X1 X2 X3 X4 X5 X6 X7
          ∗ (Res c arg1 arg2 arg3 arg4 arg5 arg6 arg7 X1 X2 X3 X4 R.1 R.2.1 R.2.2 -∗ K ⟨⟩))
        ⊢ wp frame (wpE (defs₀ (F := F)) Variants.none c none) Set.univ
            (cc0__body_skel i arg1 harg1 arg2 harg2 arg3 harg3 arg4 harg4 arg5 harg5 arg6 harg6 arg7 harg7) K } := by
  refine ⟨⟨?_, ?_, ?_⟩, fun K => ?run⟩
  case run =>
    unfold cc0__body_skel
    iintro ⟨⟨H1, H2, H3, H4, H5, H6, H7⟩, Hk⟩
    sl_exec
    sl_step
    iapply Hk
    sl_close

end Cert.KernelIdeal.Hand

end
-- ==== Proof.MathDecode.lean ====
/-
  Hand-written, untrusted. What the kernel's integer decode of E2M1 codes computes, read at an index: two tiles of packed
  bytes give two blocks of sixty-four rows, whose row `2i` is a code of byte row `i` of the first tile and whose row
  `2i + 1` is the code at the same place of the second tile; one block holds the low codes, the other the high ones.
-/
module

public import proofs.«01_k».proof.Proof.Gen.KernelIdeal.Skeleton
public import Idealize.ShloMosaic.Lib.Pointwise
public import Idealize.ShloMosaic.Lib.BitcastFour

@[expose] public section

set_option maxRecDepth 16384

noncomputable section

namespace Cert.KernelIdeal.Hand

open Cert.KernelIdeal Cert.KernelIdeal.Gen
open Idealize.ShloMosaic

/-- The bf16 word of the E2M1 code in the low four bits of `n`. -/
def codeBits (n : BitVec 8) : BitVec 16 :=
  (((n &&& 8#8).setWidth 16) <<< 12)
    + (if (n &&& 7#8).toNat = 0 then 0#16 else if (n &&& 7#8).toNat = 1 then 0x3F00#16
       else ((n &&& 7#8).setWidth 16 <<< 6) + 0x3F00#16)

/-- The word of two codes that the kernel computes from one byte: the low code's bf16 word below, the high code's above. -/
def pairBits (b : BitVec 32) : BitVec 32 :=
  let n := (b &&& 15#32) ||| ((b &&& 240#32) <<< 12)
  let m := n &&& 458759#32
  let ge1 := ((m + 458759#32).sshiftRight 3) &&& 65537#32
  let ge2 := ((m + 393222#32).sshiftRight 3) &&& 65537#32
  (((n &&& 524296#32) <<< 12) + ge1 * 16128#32) + (((m - ge1) + ge2) <<< 6)

theorem pairBits_low : ∀ b : BitVec 8, (pairBits (b.setWidth 32)).extractLsb' 0 16 = codeBits b := by
  decide +kernel

theorem pairBits_high : ∀ b : BitVec 8, (pairBits (b.setWidth 32)).extractLsb' 16 16 = codeBits (b >>> 4) := by
  decide +kernel

/-- The word of the first tile with its high codes replaced by the second tile's low codes. -/
def loWord (w1 w2 : Vec Ideal S32x128 .i8) : IVec S8x128 32 :=
  xori (k0_pay16 (F := Ideal) w1) (shli (k0_pay18 (F := Ideal) w1 w2) (broadcast S8x128 4#32))

/-- The word of the second tile with its low codes replaced by the first tile's high codes. -/
def hiWord (w1 w2 : Vec Ideal S32x128 .i8) : IVec S8x128 32 := k0_pay19 (F := Ideal) w1 w2

/-- Sixty-four rows of codes, two per byte of the words `v`. -/
def decoded (v : IVec S8x128 32) : FVec Ideal S64x128 .bf16 :=
  let b : IVec S32x128 32 := extui 32 (bitcast S32x128 8 v bitcasts_S8x128_w32_S32x128_w8) natLt_8_32
  bitcastToFloat .bf16 (bitcast S64x128 16 (fun j => pairBits (b j)) bitcasts_S32x128_w32_S64x128_w16)

theorem decoded_apply (v : IVec S8x128 32) (R : Fin 64) (l : Fin 128) (b : BitVec 8)
    (hb : bitcast S32x128 8 v bitcasts_S8x128_w32_S32x128_w8 (ix2 ⟨R.val / 2, by omega⟩ l) = b) :
    decoded v (ix2 R l)
      = FloatOps.ofBits (F := Ideal) .bf16 (if R.val % 2 = 0 then codeBits b else codeBits (b >>> 4)) := by
  unfold decoded
  rw [bitcastToFloat_apply]
  congr 1
  erw [bitcast_32_16]
  have hrow : Shape.row S64x128 (ix2 R l) = R.val := rfl
  have hidx : Shape.Bitcasts.srcIdx bitcasts_S32x128_w32_S64x128_w16 (ix2 R l) (Shape.row S64x128 (ix2 R l) / 2)
      (fun a ha => by
        have := Shape.Bitcasts.pos_lt bitcasts_S32x128_w32_S64x128_w16 (ix2 R l) 0 (by decide) a ha; omega)
      = ix2 (n0 := 32) (n1 := 128) ⟨R.val / 2, by omega⟩ l := by
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [hidx, hrow]
  show (pairBits ((bitcast S32x128 8 v bitcasts_S8x128_w32_S32x128_w8 (ix2 ⟨R.val / 2, by omega⟩ l)).setWidth 32)).extractLsb' (16 * (R.val % 2)) 16 = _
  rw [hb]
  rcases Nat.mod_two_eq_zero_or_one R.val with h | h
  · rw [h, if_pos rfl]; exact pairBits_low b
  · rw [h, if_neg (by decide)]; exact pairBits_high b

/-- The byte at row `r` of the words `v`. -/
theorem bytes_getLsbD (v : IVec S8x128 32) (r : Fin 32) (l : Fin 128) (q : Nat) (hq : q < 8) :
    (bitcast S32x128 8 v bitcasts_S8x128_w32_S32x128_w8 (ix2 r l)).getLsbD q
      = (v (ix2 ⟨r.val / 4, by omega⟩ l)).getLsbD (8 * (r.val % 4) + q) := by
  rw [bitcast_getLsbD v bitcasts_S8x128_w32_S32x128_w8 (ix2 r l) q hq (by decide)]
  have hrow : Shape.row S32x128 (ix2 r l) = r.val := rfl
  have e2 : (Shape.row S32x128 (ix2 r l) * 8 + q) % 32 = 8 * (r.val % 4) + q := by rw [hrow]; omega
  rw [e2]
  congr 2
  funext c
  match c with
  | ⟨0, _⟩ =>
    refine Fin.ext ((Shape.Bitcasts.srcIdx_row _ _ _ _ ⟨0, Nat.zero_lt_two⟩ rfl).trans ?_)
    show (Shape.row S32x128 (ix2 r l) * 8 + q) / 32 = r.val / 4
    rw [hrow]; omega
  | ⟨1, _⟩ => exact Fin.ext (Shape.Bitcasts.srcIdx_other _ _ _ _ ⟨1, Nat.one_lt_two⟩ (by show ¬ 1 + 2 = 2; omega))

/-- Byte row `r` of a tile, read out of its words. -/
theorem word_getLsbD (w : Vec Ideal S32x128 .i8) (r : Fin 32) (l : Fin 128) (q : Nat) (hq : q < 8) :
    (bitcast S8x128 32 w bitcasts_S32x128_w8_S8x128_w32 (ix2 ⟨r.val / 4, by omega⟩ l)).getLsbD (8 * (r.val % 4) + q)
      = (w (ix2 r l)).getLsbD q := by
  simp only [ix2_eq_valueIdx]
  refine (bitcast_8_32_getLsbD_ix2 w bitcasts_S32x128_w8_S8x128_w32 ⟨r.val / 4, by omega⟩ l (8 * (r.val % 4) + q) (by omega) r
    (by show r.val = 4 * (r.val / 4) + (8 * (r.val % 4) + q) / 8; omega)).trans ?_
  rw [show (8 * (r.val % 4) + q) % 8 = q by omega]

/-- The exchange's words read at a bit. -/
theorem xword_getLsbD (W1 W2 : BitVec 32) (n : Nat) (hn : n < 32) :
    (((W1 >>> 4) ^^^ W2) &&& 252645135#32).getLsbD n = (((W1.getLsbD (n + 4)) ^^ W2.getLsbD n) && decide (n % 8 < 4)) := by
  rw [BitVec.getLsbD_and, BitVec.getLsbD_xor, BitVec.getLsbD_ushiftRight, Nat.add_comm 4 n]
  congr 1
  interval_cases n <;> rfl

theorem exchange_lo (a b : BitVec 8) : ∀ q < 8,
    (if q < 4 then a.getLsbD q else b.getLsbD (q - 4)) = ((a &&& 15#8) ||| (b <<< 4)).getLsbD q := by
  intro q hq
  interval_cases q <;> simp [BitVec.getLsbD_or, BitVec.getLsbD_and]

theorem exchange_hi (a b : BitVec 8) : ∀ q < 8,
    (if q < 4 then a.getLsbD (q + 4) else b.getLsbD q) = ((a >>> 4) ||| (b &&& 240#8)).getLsbD q := by
  intro q hq
  interval_cases q <;> simp [BitVec.getLsbD_or, BitVec.getLsbD_and]

/-- The exchange, on the two words a byte row lies in: bit `q` of byte `p`. -/
theorem lo_getLsbD (W1 W2 : BitVec 32) (a b : BitVec 8) (p q : Nat) (hp : p < 4) (hq : q < 8)
    (h1 : ∀ q < 8, W1.getLsbD (8 * p + q) = a.getLsbD q) (h2 : ∀ q < 8, W2.getLsbD (8 * p + q) = b.getLsbD q) :
    (W1 ^^^ ((((W1 >>> 4) ^^^ W2) &&& 252645135#32) <<< 4)).getLsbD (8 * p + q) = ((a &&& 15#8) ||| (b <<< 4)).getLsbD q := by
  rw [← exchange_lo _ _ q hq, BitVec.getLsbD_xor, BitVec.getLsbD_shiftLeft, h1 q hq]
  by_cases h4 : q < 4
  · rw [if_pos h4]
    by_cases hz : 8 * p + q < 4
    · simp [hz]
    · rw [xword_getLsbD _ _ _ (by omega)]
      simp [show ¬ (8 * p + q - 4) % 8 < 4 by omega]
  · rw [if_neg h4, xword_getLsbD _ _ _ (by omega)]
    rw [show 8 * p + q - 4 + 4 = 8 * p + q by omega, show 8 * p + q - 4 = 8 * p + (q - 4) by omega, h1 q hq, h2 (q - 4) (by omega)]
    simp [show ¬ 8 * p + q < 4 by omega, show 8 * p + q < 32 by omega, show (q - 4) % 8 < 4 by omega]

theorem hi_getLsbD (W1 W2 : BitVec 32) (a b : BitVec 8) (p q : Nat) (hp : p < 4) (hq : q < 8)
    (h1 : ∀ q < 8, W1.getLsbD (8 * p + q) = a.getLsbD q) (h2 : ∀ q < 8, W2.getLsbD (8 * p + q) = b.getLsbD q) :
    (W2 ^^^ (((W1 >>> 4) ^^^ W2) &&& 252645135#32)).getLsbD (8 * p + q) = ((a >>> 4) ||| (b &&& 240#8)).getLsbD q := by
  rw [← exchange_hi _ _ q hq, BitVec.getLsbD_xor, xword_getLsbD _ _ _ (by omega), h2 q hq]
  by_cases h4 : q < 4
  · rw [if_pos h4, show 8 * p + q + 4 = 8 * p + (q + 4) by omega, h1 (q + 4) (by omega)]
    simp [show q % 8 < 4 by omega]
    cases b.getLsbD q <;> cases a.getLsbD (q + 4) <;> rfl
  · rw [if_neg h4]
    simp [show ¬ q % 8 < 4 by omega]

theorem loWord_apply (w1 w2 : Vec Ideal S32x128 .i8) (j : S8x128.Idx) : loWord w1 w2 j
    = k0_pay16 (F := Ideal) w1 j ^^^ ((((k0_pay16 (F := Ideal) w1 j >>> 4) ^^^ k0_pay17 (F := Ideal) w2 j) &&& 252645135#32) <<< 4) := rfl

theorem hiWord_apply (w1 w2 : Vec Ideal S32x128 .i8) (j : S8x128.Idx) : hiWord w1 w2 j
    = k0_pay17 (F := Ideal) w2 j ^^^ (((k0_pay16 (F := Ideal) w1 j >>> 4) ^^^ k0_pay17 (F := Ideal) w2 j) &&& 252645135#32) := rfl

theorem loWord_byte (w1 w2 : Vec Ideal S32x128 .i8) (r : Fin 32) (l : Fin 128) :
    bitcast S32x128 8 (loWord w1 w2) bitcasts_S8x128_w32_S32x128_w8 (ix2 r l)
      = ((w1 (ix2 r l) : BitVec 8) &&& 15#8) ||| ((w2 (ix2 r l) : BitVec 8) <<< 4) := by
  apply BitVec.eq_of_getLsbD_eq
  intro q hq
  rw [bytes_getLsbD _ r l q hq, loWord_apply]
  exact lo_getLsbD _ _ _ _ (r.val % 4) q (by omega) hq (fun q hq => word_getLsbD w1 r l q hq) (fun q hq => word_getLsbD w2 r l q hq)

theorem hiWord_byte (w1 w2 : Vec Ideal S32x128 .i8) (r : Fin 32) (l : Fin 128) :
    bitcast S32x128 8 (hiWord w1 w2) bitcasts_S8x128_w32_S32x128_w8 (ix2 r l)
      = ((w1 (ix2 r l) : BitVec 8) >>> 4) ||| ((w2 (ix2 r l) : BitVec 8) &&& 240#8) := by
  apply BitVec.eq_of_getLsbD_eq
  intro q hq
  rw [bytes_getLsbD _ r l q hq, hiWord_apply]
  exact hi_getLsbD _ _ _ _ (r.val % 4) q (by omega) hq (fun q hq => word_getLsbD w1 r l q hq) (fun q hq => word_getLsbD w2 r l q hq)

/-- The real value of the E2M1 code in the low four bits. -/
def codeVal (n : BitVec 8) : EReal := FloatOps.ofBits (F := Ideal) .bf16 (codeBits n)

theorem codeBits_lo_even : ∀ a b : BitVec 8, codeBits ((a &&& 15#8) ||| (b <<< 4)) = codeBits (a &&& 15#8) := by
  intro a b
  have e8 : ((a &&& 15#8) ||| (b <<< 4)) &&& 8#8 = (a &&& 15#8) &&& 8#8 := by
    apply BitVec.eq_of_getLsbD_eq; intro q hq
    interval_cases q <;> simp [BitVec.getLsbD_or, BitVec.getLsbD_and]
  have e7 : ((a &&& 15#8) ||| (b <<< 4)) &&& 7#8 = (a &&& 15#8) &&& 7#8 := by
    apply BitVec.eq_of_getLsbD_eq; intro q hq
    interval_cases q <;> simp [BitVec.getLsbD_or, BitVec.getLsbD_and]
  unfold codeBits
  rw [e8, e7]

theorem lo_shift (a b : BitVec 8) : ((a &&& 15#8) ||| (b <<< 4)) >>> 4 = b &&& 15#8 := by
  apply BitVec.eq_of_getLsbD_eq; intro q hq
  interval_cases q <;> simp [BitVec.getLsbD_or, BitVec.getLsbD_and]

theorem hi_shift (a b : BitVec 8) : ((a >>> 4) ||| (b &&& 240#8)) >>> 4 = b >>> 4 := by
  apply BitVec.eq_of_getLsbD_eq; intro q hq
  interval_cases q <;> simp [BitVec.getLsbD_or, BitVec.getLsbD_and]

theorem codeBits_hi_even (a b : BitVec 8) : codeBits ((a >>> 4) ||| (b &&& 240#8)) = codeBits (a >>> 4) := by
  have e8 : ((a >>> 4) ||| (b &&& 240#8)) &&& 8#8 = (a >>> 4) &&& 8#8 := by
    apply BitVec.eq_of_getLsbD_eq; intro q hq
    interval_cases q <;> simp [BitVec.getLsbD_or, BitVec.getLsbD_and]
  have e7 : ((a >>> 4) ||| (b &&& 240#8)) &&& 7#8 = (a >>> 4) &&& 7#8 := by
    apply BitVec.eq_of_getLsbD_eq; intro q hq
    interval_cases q <;> simp [BitVec.getLsbD_or, BitVec.getLsbD_and]
  unfold codeBits
  rw [e8, e7]

/-- The low codes' block at row `R`: byte row `R / 2` of the first tile (`R` even) or of the second (`R` odd). -/
theorem decoded_lo (w1 w2 : Vec Ideal S32x128 .i8) (R : Fin 64) (l : Fin 128) :
    decoded (loWord w1 w2) (ix2 R l)
      = codeVal (((if R.val % 2 = 0 then w1 else w2) (ix2 ⟨R.val / 2, by omega⟩ l) : BitVec 8) &&& 15#8) := by
  rw [decoded_apply _ R l _ (loWord_byte w1 w2 _ l)]
  unfold codeVal
  congr 1
  split
  · exact codeBits_lo_even _ _
  · rw [lo_shift]

/-- The high codes' block likewise. -/
theorem decoded_hi (w1 w2 : Vec Ideal S32x128 .i8) (R : Fin 64) (l : Fin 128) :
    decoded (hiWord w1 w2) (ix2 R l)
      = codeVal (((if R.val % 2 = 0 then w1 else w2) (ix2 ⟨R.val / 2, by omega⟩ l) : BitVec 8) >>> 4) := by
  rw [decoded_apply _ R l _ (hiWord_byte w1 w2 _ l)]
  unfold codeVal
  congr 1
  split
  · exact codeBits_hi_even _ _
  · rw [hi_shift]

end Cert.KernelIdeal.Hand

end
-- ==== Proof.MathTile.lean ====
/-
  Hand-written, untrusted. What one pass of the kernel's loop over the tiles of the contraction adds, read at an index: the
  sum over the tile's 256 rows of an activation times a code's value times its scale.
-/
module

public import proofs.«01_k».proof.Proof.MathDecode

@[expose] public section

set_option maxRecDepth 16384

noncomputable section

namespace Cert.KernelIdeal.Hand

open Cert.KernelIdeal Cert.KernelIdeal.Gen
open Idealize.ShloMosaic

/-- Two adjacent rows of scales, each repeated in every other row of thirty-two. -/
def expand (raw : Vec Ideal S1x2x128 .bf16) : FVec Ideal S32x128 .bf16 := k0_pay34 (F := Ideal) raw

theorem concat16_apply (x : FVec Ideal S1x128 .bf16) (j : S16x128.Idx) :
    concatenate S16x128 0 [⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩, ⟨S1x128, x⟩] concatenates_S1x128_S1x128_S1x128_S1x128_S1x128_S1x128_S1x128_S1x128_S1x128_S1x128_S1x128_S1x128_S1x128_S1x128_S1x128_S1x128_S16x128_d0 j
      = x (ix2 0 (j 1)) :=
  concatenate_replicate_apply (s₁ := S1x128) (t := S16x128) 0 16 x
    concatenates_S1x128_S1x128_S1x128_S1x128_S1x128_S1x128_S1x128_S1x128_S1x128_S1x128_S1x128_S1x128_S1x128_S1x128_S1x128_S1x128_S16x128_d0
    rfl j _ (by show 0 = _ % 1; omega) (fun b hb => by
      match b with
      | ⟨0, _⟩ => exact absurd rfl hb
      | ⟨1, _⟩ => rfl)

theorem expand_apply (raw : Vec Ideal S1x2x128 .bf16) (r : Fin 32) (l : Fin 128) :
    expand raw (ix2 r l) = raw (ix3 0 ⟨r.val % 2, Nat.mod_lt _ (by decide)⟩ l) := by
  unfold expand k0_pay34
  rw [interleaveRows_apply]
  have hrow : Shape.row S32x128 (ix2 r l) = r.val := rfl
  rw [hrow]
  rcases Nat.mod_two_eq_zero_or_one r.val with h | h
  · rw [if_pos h]
    rw [concat16_apply]
    pointwise
    congr 1
    simp [h]
  · rw [if_neg (by omega)]
    rw [concat16_apply]
    pointwise
    congr 1
    simp [h]

/-- Eight blocks of thirty-two rows, one above the other. -/
theorem concat8_apply (p : Fin 8 → FVec Ideal S32x128 .bf16) (R : Fin 256) (l : Fin 128) :
    concatenate S256x128 0 [⟨S32x128, p 0⟩, ⟨S32x128, p 1⟩, ⟨S32x128, p 2⟩, ⟨S32x128, p 3⟩, ⟨S32x128, p 4⟩, ⟨S32x128, p 5⟩, ⟨S32x128, p 6⟩, ⟨S32x128, p 7⟩] concatenates_S32x128_S32x128_S32x128_S32x128_S32x128_S32x128_S32x128_S32x128_S256x128_d0 (ix2 R l)
      = p ⟨R.val / 32, by omega⟩ (ix2 ⟨R.val % 32, by omega⟩ l) :=
  concatenate_ofFn_apply (t := S256x128) (s₁ := S32x128) 0 p
    concatenates_S32x128_S32x128_S32x128_S32x128_S32x128_S32x128_S32x128_S32x128_S256x128_d0 rfl 32 rfl (ix2 R l) _ rfl _ rfl
    (fun b hb => by
      match b with
      | ⟨0, _⟩ => exact absurd rfl hb
      | ⟨1, _⟩ => rfl)

/-- The block of a tile's codes times their scales, for the low codes or for the high ones. -/
def codesTimes (word : Vec Ideal S32x128 .i8 → Vec Ideal S32x128 .i8 → IVec S8x128 32)
    (W1 W2 : Fin 4 → Vec Ideal S32x128 .i8) (SC : Fin 8 → Vec Ideal S1x2x128 .bf16) (q : Fin 8) : FVec Ideal S32x128 .bf16 :=
  let d := decoded (word (W1 ⟨q.val / 2, by omega⟩) (W2 ⟨q.val / 2, by omega⟩))
  if q.val % 2 = 0 then mulf (extractStridedSlice S32x128 ![0, 0] d slices_S64x128_o0_0_S32x128) (expand (SC q))
  else mulf (extractStridedSlice S32x128 ![32, 0] d slices_S64x128_o32_0_S32x128) (expand (SC q))

theorem rows_lo (d : FVec Ideal S64x128 .bf16) (R : Fin 32) (l : Fin 128) :
    extractStridedSlice S32x128 ![0, 0] d slices_S64x128_o0_0_S32x128 (ix2 R l) = d (ix2 ⟨R.val, by omega⟩ l) := by
  pointwise

theorem rows_hi (d : FVec Ideal S64x128 .bf16) (R : Fin 32) (l : Fin 128) :
    extractStridedSlice S32x128 ![32, 0] d slices_S64x128_o32_0_S32x128 (ix2 R l) = d (ix2 ⟨32 + R.val, by omega⟩ l) := by
  pointwise

theorem codesTimes_apply (word) (W1 W2 SC) (R : Fin 256) (l : Fin 128) :
    codesTimes word W1 W2 SC ⟨R.val / 32, by omega⟩ (ix2 ⟨R.val % 32, by omega⟩ l)
      = decoded (word (W1 ⟨R.val / 64, by omega⟩) (W2 ⟨R.val / 64, by omega⟩)) (ix2 ⟨R.val % 64, by omega⟩ l)
        * SC ⟨R.val / 32, by omega⟩ (ix3 0 ⟨R.val % 2, by omega⟩ l) := by
  have e : (⟨R.val / 32 / 2, by omega⟩ : Fin 4) = ⟨R.val / 64, by omega⟩ := Fin.ext (by show R.val / 32 / 2 = R.val / 64; omega)
  have e2 : (⟨R.val % 32 % 2, by omega⟩ : Fin 2) = ⟨R.val % 2, by omega⟩ := Fin.ext (by show R.val % 32 % 2 = R.val % 2; omega)
  have hs := expand_apply (SC ⟨R.val / 32, by omega⟩) ⟨R.val % 32, by omega⟩ l
  rw [show (⟨(⟨R.val % 32, by omega⟩ : Fin 32).val % 2, Nat.mod_lt _ (by decide)⟩ : Fin 2) = ⟨R.val % 2, by omega⟩ from e2] at hs
  unfold codesTimes
  rw [show (⟨(⟨R.val / 32, by omega⟩ : Fin 8).val / 2, by omega⟩ : Fin 4) = ⟨R.val / 64, by omega⟩ from e]
  by_cases h : R.val / 32 % 2 = 0
  · rw [if_pos h, mulf_apply, hs, Ideal.mulf_def, rows_lo]
    congr 3
    exact Fin.ext (by show R.val % 32 = R.val % 64; omega)
  · rw [if_neg h, mulf_apply, hs, Ideal.mulf_def, rows_hi]
    congr 3
    exact Fin.ext (by show 32 + R.val % 32 = R.val % 64; omega)

/-- The tile's weights: the low codes' block beside the high codes' block. -/
def weights (W1 W2 : Fin 4 → Vec Ideal S32x128 .i8) (SC : Fin 2 → Fin 8 → Vec Ideal S1x2x128 .bf16) : FVec Ideal S256x256 .bf16 :=
  let A := codesTimes loWord W1 W2 (SC 0)
  let B := codesTimes hiWord W1 W2 (SC 1)
  concatenate S256x256 1
    [⟨S256x128, concatenate S256x128 0 [⟨S32x128, A 0⟩, ⟨S32x128, A 1⟩, ⟨S32x128, A 2⟩, ⟨S32x128, A 3⟩, ⟨S32x128, A 4⟩, ⟨S32x128, A 5⟩, ⟨S32x128, A 6⟩, ⟨S32x128, A 7⟩] concatenates_S32x128_S32x128_S32x128_S32x128_S32x128_S32x128_S32x128_S32x128_S256x128_d0⟩,
     ⟨S256x128, concatenate S256x128 0 [⟨S32x128, B 0⟩, ⟨S32x128, B 1⟩, ⟨S32x128, B 2⟩, ⟨S32x128, B 3⟩, ⟨S32x128, B 4⟩, ⟨S32x128, B 5⟩, ⟨S32x128, B 6⟩, ⟨S32x128, B 7⟩] concatenates_S32x128_S32x128_S32x128_S32x128_S32x128_S32x128_S32x128_S32x128_S256x128_d0⟩]
    concatenates_S256x128_S256x128_S256x256_d1

/-- What the loop carries after one pass over the tile. -/
def tile (acc : FVec Ideal S16x256 .f32) (X : Vec Ideal S16x256 .bf16) (W1 W2 : Fin 4 → Vec Ideal S32x128 .i8)
    (SC : Fin 2 → Fin 8 → Vec Ideal S1x2x128 .bf16) : FVec Ideal S16x256 .f32 :=
  addf acc (matmul dot_S16x256_S256x256_S16x256_1_0_0_1_n_n none (φ₁ := .bf16) X (weights W1 W2 SC) (constant S16x256 .f32 0x00000000#32))

/-- A code's value in the tile: `f = 0` the low code, `f = 1` the high one. -/
def tileCode (W1 W2 : Fin 4 → Vec Ideal S32x128 .i8) (f : Fin 2) (R : Fin 256) (l : Fin 128) : EReal :=
  let b : BitVec 8 := (if R.val % 2 = 0 then W1 else W2) ⟨R.val / 64, by omega⟩ (ix2 ⟨R.val % 64 / 2, by omega⟩ l)
  codeVal (if f = 0 then b &&& 15#8 else b >>> 4)

theorem weights_apply (W1 W2 SC) (f : Fin 2) (R : Fin 256) (l : Fin 128) :
    weights W1 W2 SC (ix2 R ⟨128 * f.val + l.val, by omega⟩)
      = tileCode W1 W2 f R l * SC f ⟨R.val / 32, by omega⟩ (ix3 0 ⟨R.val % 2, by omega⟩ l) := by
  unfold weights
  have em : R.val % 64 % 2 = R.val % 2 := by omega
  obtain rfl | rfl : f = 0 ∨ f = 1 := by revert f; decide
  · refine (concatenate_pair_apply_left (t := S256x256) (s₁ := S256x128) (s₂ := S256x128) 1 _ _ _ _ rfl (ix2 R l) fun b => ?_).trans ?_
    · match b with
      | ⟨0, _⟩ => rfl
      | ⟨1, _⟩ => show l.val = 128 * 0 + l.val; omega
    · refine (concat8_apply (codesTimes loWord W1 W2 (SC 0)) R l).trans ?_
      rw [codesTimes_apply, decoded_lo]
      unfold tileCode
      simp only [em]
      congr 2
      split <;> rfl
  · refine (concatenate_pair_apply_right (t := S256x256) (s₁ := S256x128) (s₂ := S256x128) 1 _ _ _ _ rfl rfl (ix2 R l) (fun b hb => ?_) ?_).trans ?_
    · match b with
      | ⟨0, _⟩ => rfl
      | ⟨1, _⟩ => exact absurd rfl hb
    · show l.val + 128 = 128 * 1 + l.val; omega
    · refine (concat8_apply (codesTimes hiWord W1 W2 (SC 1)) R l).trans ?_
      rw [codesTimes_apply, decoded_hi]
      unfold tileCode
      simp only [em]
      congr 2
      split <;> rfl

theorem tile_apply (acc X W1 W2 SC) (r : Fin 16) (f : Fin 2) (l : Fin 128) :
    tile acc X W1 W2 SC (ix2 r ⟨128 * f.val + l.val, by omega⟩)
      = acc (ix2 r ⟨128 * f.val + l.val, by omega⟩)
        + ∑ R : Fin 256, X (ix2 r R) * (tileCode W1 W2 f R l * SC f ⟨R.val / 32, by omega⟩ (ix3 0 ⟨R.val % 2, by omega⟩ l)) := by
  unfold tile
  pointwise [dot_S16x256_S256x256_S16x256_1_0_0_1_n_n]
  congr 1
  refine Finset.sum_congr rfl fun R _ => ?_
  rw [weights_apply]

end Cert.KernelIdeal.Hand

end
-- ==== Proof.MathLanes.lean ====
/-
  Hand-written, untrusted. The kernel's two lane permutations, read at an index: two 128-lane blocks interleaved into one of
  256 lanes, and the block scales of 256 output columns taken apart into the even columns' and the odd columns'.
-/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic

/-! ## Floor division and remainder of lane numbers, as the kernel's text spells them -/

/-- Floor division of each lane by `n`. -/
def divV (s : Shape) (n : BitVec 32) (v : IVec s 32) : IVec s 32 :=
  select (andi
      (cmpi .ne (subi (extui 32 (cmpi .sgt v (broadcast s 0#32)) natLt_1_32) (extui 32 (cmpi .slt v (broadcast s 0#32)) natLt_1_32))
        (broadcast s (Scalar.subi (Scalar.extui (Scalar.cmpi .sgt n 0#32)) (Scalar.extui (Scalar.cmpi .slt n 0#32)))))
      (cmpi .ne (remsi v (broadcast s n)) (broadcast s 0#32)))
    (subi (divsi v (broadcast s n)) (broadcast s 1#32)) (divsi v (broadcast s n))

/-- Remainder of each lane by `n`, in `[0, n)`. -/
def modV (s : Shape) (h : s.Broadcasts s) (n : BitVec 32) (v : IVec s 32) : IVec s 32 :=
  let n' : BitVec 32 := Scalar.select (Scalar.cmpi .eq n 0#32) 1#32 n
  let r := remsi v (broadcast s n')
  select (andi (xori (cmpi .slt r (broadcast s 0#32)) (broadcastTo s (broadcast s (Scalar.cmpi .slt n' 0#32)) h))
      (cmpi .ne r (broadcast s 0#32)))
    (addi r (broadcast s n')) r

/-- An index below zero counted from the end of 128 lanes. -/
def wrapV (s : Shape) (v : IVec s 32) : IVec s 32 :=
  select (cmpi .slt v (broadcast s 0#32)) (addi v (broadcast s 128#32)) v

/-! ## The interleave -/

abbrev lane16 : IVec S16x128 32 := iota .tc S16x128 32 [1] iota_S16x128_d1_w32

/-- Lane `l` takes lane `base + l / 2`. -/
def spread (base : BitVec 32) (x : FVec Ideal S16x128 .f32) : FVec Ideal S16x128 .bf16 :=
  truncf .bf16 (dynamicGather 1 x (shapeCast S16x128
    (shapeCast S16x128x1 (wrapV S16x128 (addi (broadcast S16x128 base) (divV S16x128 2#32 lane16))) shapeCasts_S16x128_S16x128x1)
    shapeCasts_S16x128x1_S16x128)) bitsLt_bf16_f32

/-- One half of the interleave. -/
def ilHalf (base : BitVec 32) (e o : FVec Ideal S16x128 .f32) : FVec Ideal S16x128 .bf16 :=
  truncf .bf16 (extf .f32 (select (cmpi .eq (modV S16x128 broadcasts_S16x128_S16x128 2#32 lane16) (broadcast S16x128 0#32))
    (spread base e) (spread base o)) bitsLt_bf16_f32) bitsLt_bf16_f32

/-- Two blocks of 128 lanes interleaved. -/
def il (e o : FVec Ideal S16x128 .f32) : FVec Ideal S16x256 .bf16 :=
  concatenate S16x256 1 [⟨S16x128, ilHalf 0#32 e o⟩, ⟨S16x128, ilHalf 64#32 e o⟩] concatenates_S16x128_S16x128_S16x256_d1

theorem lane16_apply (r : Fin 16) (l : Fin 128) : lane16 (ix2 r l) = BitVec.ofNat 32 l.val := by
  pointwise

abbrev S1x1 : Shape := ⟨2, ![1, 1]⟩
abbrev at0 : S1x1.Idx := fun _ => ⟨0, by rename_i a; revert a; decide⟩

theorem half_lanes : ∀ l : Fin 128,
    ((wrapV S1x1 (addi (broadcast S1x1 0#32) (divV S1x1 2#32 (fun _ => BitVec.ofNat 32 l.val)))) at0).toNat % 128 = l.val / 2
    ∧ ((wrapV S1x1 (addi (broadcast S1x1 64#32) (divV S1x1 2#32 (fun _ => BitVec.ofNat 32 l.val)))) at0).toNat % 128 = 64 + l.val / 2
    ∧ (cmpi .eq (modV S1x1 (by decide) 2#32 (fun _ => BitVec.ofNat 32 l.val)) (broadcast S1x1 0#32) at0) = BitVec.ofBool (l.val % 2 = 0) := by
  decide +kernel

theorem spread_apply (base : BitVec 32) (x : FVec Ideal S16x128 .f32) (r : Fin 16) (l : Fin 128) (l' : Fin 128)
    (h : ((wrapV S1x1 (addi (broadcast S1x1 base) (divV S1x1 2#32 (fun _ => BitVec.ofNat 32 l.val)))) at0).toNat % 128 = l'.val) :
    spread base x (ix2 r l) = x (ix2 r l') := by
  unfold spread
  rw [truncf_apply, Ideal.truncf_def, dynamicGather_apply_norm]
  have e : ∀ v : IVec S16x128 32, shapeCast S16x128 (shapeCast S16x128x1 v shapeCasts_S16x128_S16x128x1) shapeCasts_S16x128x1_S16x128 (ix2 r l) = v (ix2 r l) := by
    intro v; pointwise
  rw [e]
  congr 1
  have hl : (wrapV S16x128 (addi (broadcast S16x128 base) (divV S16x128 2#32 lane16)) (ix2 r l)).toNat % 128 = l'.val := by
    rw [← h, ← lane16_apply r l]; rfl
  rw [Shape.Idx.norm2]
  congr 1
  exact Fin.ext hl

theorem ilHalf_apply (base : BitVec 32) (e o : FVec Ideal S16x128 .f32) (r : Fin 16) (l : Fin 128) (l' : Fin 128)
    (h : ((wrapV S1x1 (addi (broadcast S1x1 base) (divV S1x1 2#32 (fun _ => BitVec.ofNat 32 l.val)))) at0).toNat % 128 = l'.val) :
    ilHalf base e o (ix2 r l) = if l.val % 2 = 0 then e (ix2 r l') else o (ix2 r l') := by
  unfold ilHalf
  rw [truncf_apply, Ideal.truncf_def, extf_apply, Ideal.extf_def]
  show Scalar.select (cmpi .eq (modV S16x128 broadcasts_S16x128_S16x128 2#32 lane16) (broadcast S16x128 0#32) (ix2 r l)) (spread base e (ix2 r l))
    (spread base o (ix2 r l)) = _
  rw [spread_apply base e r l l' h, spread_apply base o r l l' h]
  have hm : cmpi .eq (modV S16x128 broadcasts_S16x128_S16x128 2#32 lane16) (broadcast S16x128 0#32) (ix2 r l) = BitVec.ofBool (l.val % 2 = 0) := by
    rw [← (half_lanes l).2.2, ← lane16_apply r l]; rfl
  rw [hm]
  by_cases h2 : l.val % 2 = 0
  · simp only [h2, if_true, decide_true]; rfl
  · simp only [h2, if_false, decide_false]; rfl

/-- Column `C` of the interleave is column `C / 2` of the first block (`C` even) or of the second (`C` odd). -/
theorem il_apply (e o : FVec Ideal S16x128 .f32) (r : Fin 16) (C : Fin 256) :
    il e o (ix2 r C) = if C.val % 2 = 0 then e (ix2 r ⟨C.val / 2, by omega⟩) else o (ix2 r ⟨C.val / 2, by omega⟩) := by
  unfold il
  by_cases hC : C.val < 128
  · refine (concatenate_pair_apply_left (t := S16x256) (s₁ := S16x128) (s₂ := S16x128) 1 _ _ _ _ rfl (ix2 r ⟨C.val, hC⟩) fun b => ?_).trans ?_
    · match b with
      | ⟨0, _⟩ => rfl
      | ⟨1, _⟩ => rfl
    · exact ilHalf_apply 0#32 e o r ⟨C.val, hC⟩ ⟨C.val / 2, by omega⟩ (half_lanes ⟨C.val, hC⟩).1
  · have hC' : C.val - 128 < 128 := by omega
    refine (concatenate_pair_apply_right (t := S16x256) (s₁ := S16x128) (s₂ := S16x128) 1 _ _ _ _ rfl rfl (ix2 r ⟨C.val - 128, hC'⟩) (fun b hb => ?_) ?_).trans ?_
    · match b with
      | ⟨0, _⟩ => rfl
      | ⟨1, _⟩ => exact absurd rfl hb
    · show C.val - 128 + 128 = C.val; omega
    · rw [ilHalf_apply 64#32 e o r ⟨C.val - 128, hC'⟩ ⟨C.val / 2, by omega⟩
        ((half_lanes ⟨C.val - 128, hC'⟩).2.1.trans (by show 64 + (C.val - 128) / 2 = C.val / 2; omega))]
      rw [show (C.val - 128) % 2 = C.val % 2 by omega]

/-! ## The scales -/

abbrev lane624 : IVec S624x128 32 := iota .tc S624x128 32 [1] iota_S624x128_d1_w32

/-- The lane of the first half that each lane takes. -/
def permA (s : Shape) (h : s.Broadcasts s) (v : IVec s 32) : IVec s 32 :=
  wrapV s (addi (muli (broadcast s 2#32) (modV s h 64#32 v)) (divV s 64#32 v))

/-- The lane of the second half that each lane takes. -/
def permB (s : Shape) (h : s.Broadcasts s) (v : IVec s 32) : IVec s 32 :=
  wrapV s (subi (addi (muli (broadcast s 2#32) (modV s h 64#32 v)) (broadcast s 1#32)) (divV s 64#32 v))

/-- Lanes taken by an index per lane. -/
def take624 (x : FVec Ideal S624x128 .f32) (v : IVec S624x128 32) : FVec Ideal S624x128 .f32 :=
  dynamicGather 1 x (shapeCast S624x128 (shapeCast S624x128x1 v shapeCasts_S624x128_S624x128x1) shapeCasts_S624x128x1_S624x128)

def takeA (v : Vec Ideal S624x256 .fp8e4m3) : FVec Ideal S624x128 .f32 :=
  take624 (extractStridedSlice S624x128 ![0, 0] (extf (F := Ideal) .f32 v bitsLt_fp8e4m3_f32) slices_S624x256_o0_0_S624x128)
    (permA S624x128 broadcasts_S624x128_S624x128 lane624)

def takeB (v : Vec Ideal S624x256 .fp8e4m3) : FVec Ideal S624x128 .f32 :=
  take624 (extractStridedSlice S624x128 ![0, 128] (extf (F := Ideal) .f32 v bitsLt_fp8e4m3_f32) slices_S624x256_o0_128_S624x128)
    (permB S624x128 broadcasts_S624x128_S624x128 lane624)

def lowLanes : IVec S624x128 1 := cmpi .slt lane624 (broadcast S624x128 64#32)

/-- The even columns' scales. -/
def evenScales (v : Vec Ideal S624x256 .fp8e4m3) : FVec Ideal S624x128 .f32 := select lowLanes (takeA v) (takeB v)

/-- The odd columns' scales. -/
def oddScales (v : Vec Ideal S624x256 .fp8e4m3) : FVec Ideal S624x128 .f32 :=
  dynamicRotate 1 64#32 none (select lowLanes (takeB v) (takeA v)) rotates_S624x128_d1

/-- The rows of a block of scales as the scratch holds them: row `2q` is row `q`, row `2q + 1` is row `312 + q`. -/
def scaleRows (x : FVec Ideal S624x128 .f32) : Vec Ideal S1x624x128 .bf16 :=
  interleaveRows S1x624x128
    (shapeCast S1x312x128 (truncf .bf16 (extractStridedSlice S312x128 ![0, 0] x slices_S624x128_o0_0_S312x128) bitsLt_bf16_f32 : FVec Ideal S312x128 .bf16) shapeCasts_S312x128_S1x312x128)
    (shapeCast S1x312x128 (truncf .bf16 (extractStridedSlice S312x128 ![312, 0] x slices_S624x128_o312_0_S312x128) bitsLt_bf16_f32 : FVec Ideal S312x128 .bf16) shapeCasts_S312x128_S1x312x128)
    bitcasts_S1x624x128_w16_S1x312x128_w32

theorem lane624_apply (r : Fin 624) (l : Fin 128) : lane624 (ix2 r l) = BitVec.ofNat 32 l.val := by
  pointwise

theorem perm_lanes : ∀ l : Fin 128,
    (permA S1x1 (by decide) (fun _ => BitVec.ofNat 32 l.val) at0).toNat % 128 = 2 * (l.val % 64) + l.val / 64
    ∧ (permB S1x1 (by decide) (fun _ => BitVec.ofNat 32 l.val) at0).toNat % 128 = 2 * (l.val % 64) + 1 - l.val / 64
    ∧ (cmpi .slt (fun _ => BitVec.ofNat 32 l.val) (broadcast S1x1 64#32) at0) = BitVec.ofBool (l.val < 64) := by
  decide +kernel

theorem take624_apply (x : FVec Ideal S624x128 .f32) (v : IVec S624x128 32) (r : Fin 624) (l l' : Fin 128)
    (h : (v (ix2 r l)).toNat % 128 = l'.val) : take624 x v (ix2 r l) = x (ix2 r l') := by
  unfold take624
  rw [dynamicGather_apply_norm]
  have e : shapeCast S624x128 (shapeCast S624x128x1 v shapeCasts_S624x128_S624x128x1) shapeCasts_S624x128x1_S624x128 (ix2 r l) = v (ix2 r l) := by
    pointwise
  rw [e, Shape.Idx.norm2]
  congr 1
  congr 1
  exact Fin.ext h

theorem takeA_apply (v : Vec Ideal S624x256 .fp8e4m3) (r : Fin 624) (l : Fin 128) :
    takeA v (ix2 r l) = v (ix2 r ⟨2 * (l.val % 64) + l.val / 64, by omega⟩) := by
  unfold takeA
  rw [take624_apply _ _ r l ⟨2 * (l.val % 64) + l.val / 64, by omega⟩
    (by refine Eq.trans ?_ (perm_lanes l).1; rw [← lane624_apply r l]; rfl)]
  pointwise

theorem takeB_apply (v : Vec Ideal S624x256 .fp8e4m3) (r : Fin 624) (l : Fin 128) :
    takeB v (ix2 r l) = v (ix2 r ⟨128 + (2 * (l.val % 64) + 1 - l.val / 64), by omega⟩) := by
  unfold takeB
  rw [take624_apply _ _ r l ⟨2 * (l.val % 64) + 1 - l.val / 64, by omega⟩
    (by refine Eq.trans ?_ (perm_lanes l).2.1; rw [← lane624_apply r l]; rfl)]
  pointwise

theorem lowLanes_apply (r : Fin 624) (l : Fin 128) : lowLanes (ix2 r l) = BitVec.ofBool (l.val < 64) := by
  rw [← (perm_lanes l).2.2, ← lane624_apply r l]; rfl

theorem evenScales_apply (v : Vec Ideal S624x256 .fp8e4m3) (r : Fin 624) (l : Fin 128) :
    evenScales v (ix2 r l) = v (ix2 r ⟨2 * l.val, by omega⟩) := by
  unfold evenScales
  show Scalar.select (lowLanes (ix2 r l)) (takeA v (ix2 r l)) (takeB v (ix2 r l)) = _
  rw [lowLanes_apply, takeA_apply, takeB_apply]
  by_cases h : l.val < 64
  · simp only [h, decide_true]
    refine (congrArg v ?_ : v _ = v _)
    congr 1
    exact Fin.ext (by show 2 * (l.val % 64) + l.val / 64 = 2 * l.val; omega)
  · simp only [h, decide_false]
    refine (congrArg v ?_ : v _ = v _)
    congr 1
    exact Fin.ext (by show 128 + (2 * (l.val % 64) + 1 - l.val / 64) = 2 * l.val; omega)

theorem oddScales_apply (v : Vec Ideal S624x256 .fp8e4m3) (r : Fin 624) (l : Fin 128) :
    oddScales v (ix2 r l) = v (ix2 r ⟨2 * l.val + 1, by omega⟩) := by
  unfold oddScales
  rw [Pointwise.dynamicRotate_apply, Shape.Idx.norm2]
  show Scalar.select (lowLanes (ix2 r ⟨(l.val + 128 - 64 % 128) % 128, _⟩)) (takeB v (ix2 r ⟨(l.val + 128 - 64 % 128) % 128, _⟩))
    (takeA v (ix2 r ⟨(l.val + 128 - 64 % 128) % 128, _⟩)) = _
  rw [lowLanes_apply, takeA_apply, takeB_apply]
  by_cases h : l.val < 64
  · have h' : ¬ (l.val + 128 - 64 % 128) % 128 < 64 := by omega
    simp only [h', decide_false]
    refine (congrArg v ?_ : v _ = v _)
    congr 1
    exact Fin.ext (by show 2 * ((l.val + 128 - 64 % 128) % 128 % 64) + (l.val + 128 - 64 % 128) % 128 / 64 = 2 * l.val + 1; omega)
  · have h' : (l.val + 128 - 64 % 128) % 128 < 64 := by omega
    simp only [h', decide_true]
    refine (congrArg v ?_ : v _ = v _)
    congr 1
    exact Fin.ext (by show 128 + (2 * ((l.val + 128 - 64 % 128) % 128 % 64) + 1 - (l.val + 128 - 64 % 128) % 128 / 64) = 2 * l.val + 1; omega)

theorem scaleRows_apply (x : FVec Ideal S624x128 .f32) (R : Fin 624) (l : Fin 128) :
    scaleRows x (ix3 0 R l) = x (ix2 ⟨R.val / 2 + 312 * (R.val % 2), by omega⟩ l) := by
  unfold scaleRows
  rw [interleaveRows_apply]
  have hrow : Shape.row S1x624x128 (ix3 0 R l) = R.val := rfl
  rw [hrow]
  rcases Nat.mod_two_eq_zero_or_one R.val with h | h
  · rw [if_pos h]
    pointwise
    congr 2
    exact Fin.ext (by show R.val / 2 = R.val / 2 + 312 * (R.val % 2); omega)
  · rw [if_neg (by omega)]
    pointwise
    congr 2
    exact Fin.ext (by show 312 + R.val / 2 = R.val / 2 + 312 * (R.val % 2); omega)

end Cert.KernelIdeal.Hand

end
-- ==== Proof.BodyBridge.lean ====
/-
  Hand-written, untrusted. What the two runs of the idealized body find, restated through the math modules' names: a trip of
  each loop, the scales the scratch holds, and the two halves written into the output block.
-/
module

public import proofs.«01_k».proof.Proof.ValueRun
public import proofs.«01_k».proof.Proof.MathTile
public import proofs.«01_k».proof.Proof.MathLanes

@[expose] public section

set_option maxRecDepth 16384

noncomputable section

namespace Cert.KernelIdeal.Hand

open Cert.KernelIdeal Cert.KernelIdeal.Gen
open Idealize.ShloMosaic

variable (c : Dev nD) (i : grid0.Coords)
    (a1 : Memref sig .tc .smem S1 .f32) (h1 : a1.IsWhole) (a2 : Memref sig .tc .vmem S16x9984 .bf16) (h2 : a2.IsWhole)
    (a3 : Memref sig .tc .vmem S9984x256 .i8) (h3 : a3.IsWhole) (a4 : Memref sig .tc .vmem S624x512 .fp8e4m3) (h4 : a4.IsWhole)
    (a5 : Memref sig .tc .vmem S16x512 .bf16) (h5 : a5.IsWhole) (a6 : Memref sig .tc .vmem S16x9984 .bf16) (h6 : a6.IsWhole)
    (a7 : Memref sig .tc .vmem S2x624x128 .bf16) (h7 : a7.IsWhole)
    (X1 : BufTy.Contents (Elt Ideal) a1.view.ty) (X2 : BufTy.Contents (Elt Ideal) a2.view.ty) (X3 : BufTy.Contents (Elt Ideal) a3.view.ty)
    (X4 : BufTy.Contents (Elt Ideal) a4.view.ty) (X5 : BufTy.Contents (Elt Ideal) a5.view.ty) (X6 : BufTy.Contents (Elt Ideal) a6.view.ty)
    (X7 : BufTy.Contents (Elt Ideal) a7.view.ty)

/-! ## The loads of one trip over the tiles -/

def codes1A (k : Fin k0_t2_loop.trips) (j : Fin 4) : Vec Ideal S32x128 .i8 :=
  View.readAt (Elt Ideal) a3.view (Rect.unit (s := S9984x256) (k0_off4 k (BitVec.ofNat 32 j.val)) S32x128.size (k0_off4_inb k j)).toLoadRect X3
def codes2A (k : Fin k0_t2_loop.trips) (j : Fin 4) : Vec Ideal S32x128 .i8 :=
  View.readAt (Elt Ideal) a3.view (Rect.unit (s := S9984x256) (k0_off5 k (BitVec.ofNat 32 j.val)) S32x128.size (k0_off5_inb k j)).toLoadRect X3
def actsA (k : Fin k0_t2_loop.trips) : Vec Ideal S16x256 .bf16 :=
  View.readAt (Elt Ideal) a6.view (Rect.unit (s := S16x9984) (k0_off8 k) S16x256.size (k0_off8_inb k)).toLoadRect X6
def scalesA (k : Fin k0_t2_loop.trips) (f : Fin 2) (q : Fin 8) : Vec Ideal S1x2x128 .bf16 :=
  if f = 0 then View.readAt (Elt Ideal) a7.view (Rect.unit (s := S2x624x128) (k0_off6 k (BitVec.ofNat 32 (q.val / 2)) (BitVec.ofNat 32 (q.val % 2))) S1x2x128.size (k0_off6_inb k ⟨q.val / 2, by omega⟩ ⟨q.val % 2, by omega⟩)).toLoadRect X7
  else View.readAt (Elt Ideal) a7.view (Rect.unit (s := S2x624x128) (k0_off7 k (BitVec.ofNat 32 (q.val / 2)) (BitVec.ofNat 32 (q.val % 2))) S1x2x128.size (k0_off7_inb k ⟨q.val / 2, by omega⟩ ⟨q.val % 2, by omega⟩)).toLoadRect X7

def codes1B (k : Fin k0_t3_loop.trips) (j : Fin 4) : Vec Ideal S32x128 .i8 :=
  View.readAt (Elt Ideal) a3.view (Rect.unit (s := S9984x256) (k0_off9 k (BitVec.ofNat 32 j.val)) S32x128.size (k0_off9_inb k j)).toLoadRect X3
def codes2B (k : Fin k0_t3_loop.trips) (j : Fin 4) : Vec Ideal S32x128 .i8 :=
  View.readAt (Elt Ideal) a3.view (Rect.unit (s := S9984x256) (k0_off10 k (BitVec.ofNat 32 j.val)) S32x128.size (k0_off10_inb k j)).toLoadRect X3
def actsB (k : Fin k0_t3_loop.trips) : Vec Ideal S16x256 .bf16 :=
  View.readAt (Elt Ideal) a6.view (Rect.unit (s := S16x9984) (k0_off13 k) S16x256.size (k0_off13_inb k)).toLoadRect X6
def scalesB (k : Fin k0_t3_loop.trips) (f : Fin 2) (q : Fin 8) : Vec Ideal S1x2x128 .bf16 :=
  if f = 0 then View.readAt (Elt Ideal) a7.view (Rect.unit (s := S2x624x128) (k0_off11 k (BitVec.ofNat 32 (q.val / 2)) (BitVec.ofNat 32 (q.val % 2))) S1x2x128.size (k0_off11_inb k ⟨q.val / 2, by omega⟩ ⟨q.val % 2, by omega⟩)).toLoadRect X7
  else View.readAt (Elt Ideal) a7.view (Rect.unit (s := S2x624x128) (k0_off12 k (BitVec.ofNat 32 (q.val / 2)) (BitVec.ofNat 32 (q.val % 2))) S1x2x128.size (k0_off12_inb k ⟨q.val / 2, by omega⟩ ⟨q.val % 2, by omega⟩)).toLoadRect X7

/-- A trip of the first half's loop is one tile. -/
theorem trip2_eq (v127 v128) (k : Fin k0_t2_loop.trips) (acc : FVec Ideal S16x256 .f32) :
    tripR_k0_t2 (F := Ideal) .none c none i a1 h1 a2 h2 a3 h3 a4 h4 a5 h5 a6 h6 a7 h7 v127 v128 X3 X6 X7 k acc
      = tile acc (actsA a6 X6 k) (codes1A a3 X3 k) (codes2A a3 X3 k) (scalesA a7 X7 k) := by
  unfold tripR_k0_t2 trip_k0_t2
  dsimp only
  rfl

/-- A trip of the second half's loop is one tile. -/
theorem trip3_eq (v1 v2 v3 v4) (k : Fin k0_t3_loop.trips) (acc : FVec Ideal S16x256 .f32) :
    tripR_k0_t3 (F := Ideal) .none c none i a1 h1 a2 h2 a3 h3 a4 h4 a5 h5 a6 h6 a7 h7 v1 v2 v3 v4 X3 X6 X7 k acc
      = tile acc (actsB a6 X6 k) (codes1B a3 X3 k) (codes2B a3 X3 k) (scalesB a7 X7 k) := by
  unfold tripR_k0_t3 trip_k0_t3
  dsimp only
  rfl

/-! ## The activations' interleave -/

/-- A load of the activations, widened. -/
def half1 (hh : k0_cond1 i = 1#1) (k : Fin k0_t1_loop.trips) : FVec Ideal S16x128 .f32 :=
  extf .f32 (k0_pay2 (F := Ideal) (View.readAt (Elt Ideal) a2.view (Rect.unit (s := S16x9984) (k0_off1 k) S16x128.size (k0_off1_inb i k hh)).toLoadRect X2)) bitsLt_bf16_f32
def half2 (hh : k0_cond1 i = 1#1) (k : Fin k0_t1_loop.trips) : FVec Ideal S16x128 .f32 :=
  extf .f32 (k0_pay3 (F := Ideal) (View.readAt (Elt Ideal) a2.view (Rect.unit (s := S16x9984) (k0_off2 k) S16x128.size (k0_off2_inb i k hh)).toLoadRect X2)) bitsLt_bf16_f32

theorem trip1_eq (hh : k0_cond1 i = 1#1) (k : Fin k0_t1_loop.trips) :
    tripL_k0_t1 (F := Ideal) .none c none i a1 h1 a2 h2 a3 h3 a4 h4 a5 h5 a6 h6 a7 h7 hh X2 k
      = [⟨Rect.unit (s := S16x9984) (k0_off3 k) S16x256.size (k0_off3_inb i k hh),
          shapeCast S16x256 (il (half1 i a2 X2 hh k) (half2 i a2 X2 hh k)) shapeCasts_S16x256_S16x256⟩] := by
  unfold tripL_k0_t1 trip_k0_t1
  dsimp only
  rfl

/-! ## The scales in the scratch -/

def scaleBlock0 : Vec Ideal S624x256 .fp8e4m3 :=
  View.readAt (Elt Ideal) a4.view (Rect.unit (s := S624x512) ![0, 0] S624x256.size inb_S624x512_S624x256_0_0).toLoadRect X4
def scaleBlock1 : Vec Ideal S624x256 .fp8e4m3 :=
  View.readAt (Elt Ideal) a4.view (Rect.unit (s := S624x512) ![0, 256] S624x256.size inb_S624x512_S624x256_0_256).toLoadRect X4

/-- The two stores of a half's scales. -/
def scalePieces (v : Vec Ideal S624x256 .fp8e4m3) : List (View.Piece (Elt Ideal) S2x624x128 .bf16) :=
  [⟨Rect.unit (s := S2x624x128) ![1, 0, 0] S1x624x128.size inb_S2x624x128_S1x624x128_1_0_0, scaleRows (oddScales v)⟩,
   ⟨Rect.unit (s := S2x624x128) ![0, 0, 0] S1x624x128.size inb_S2x624x128_S1x624x128_0_0_0, scaleRows (evenScales v)⟩]

/-- Half an output block: the loop's result times the global scale, its halves interleaved. -/
def outHalf (acc : FVec Ideal S16x256 .f32) (g : Elt Ideal .f32) : FVec Ideal S16x256 .bf16 :=
  il (k0_pay180 acc g) (k0_pay181 acc g)

def gWord : Elt Ideal .f32 :=
  View.readAt (Elt Ideal) a1.view (Rect.unit (s := S1) ![0] ![1] inb_S1_S1_0).toLoadRect X1 (fun a => ⟨0, by revert a; decide⟩)

/-- The two stores of an output block, from the scratch's activations. -/
def outPieces (w127 : FVec Ideal S312x128 .f32) (w128 : FVec Ideal S312x128 .bf16)
    (w1 : FVec Ideal S624x128 .f32) (w2 : IVec S624x128 32) (w3 : FVec Ideal S624x128 .f32) (w4 : IVec S624x128 32) : List (View.Piece (Elt Ideal) S16x512 .bf16) :=
  [⟨Rect.unit (s := S16x512) ![0, 256] S16x256.size inb_S16x512_S16x256_0_256,
      outHalf (st_k0_t3 (F := Ideal) .none c none i a1 h1 a2 h2 a3 h3 a4 h4 a5 h5 a6 h6 a7 h7 w1 w2 w3 w4 X3 X6
        (a7.view.writes (Elt Ideal) a7.view.junk (scalePieces (scaleBlock1 a4 X4) ++ scalePieces (scaleBlock0 a4 X4))) k0_pay176 39) (gWord a1 X1)⟩,
   ⟨Rect.unit (s := S16x512) ![0, 0] S16x256.size inb_S16x512_S16x256_0_0,
      outHalf (st_k0_t2 (F := Ideal) .none c none i a1 h1 a2 h2 a3 h3 a4 h4 a5 h5 a6 h6 a7 h7 w127 w128 X3 X6
        (a7.view.writes (Elt Ideal) a7.view.junk (scalePieces (scaleBlock0 a4 X4))) k0_pay176 39) (gWord a1 X1)⟩]

theorem runA_acts (hh : k0_cond1 i = 1#1) :
    (runA (F := Ideal) c i a1 h1 a2 h2 a3 h3 a4 h4 a5 h5 a6 h6 a7 h7 X1 X2 X3 X4 X5 X6 X7 hh).1.2.1
      = a6.view.writes (Elt Ideal) X6 (pb_k0_t1 (F := Ideal) .none c none i a1 h1 a2 h2 a3 h3 a4 h4 a5 h5 a6 h6 a7 h7 hh X2 39) := by
  unfold runA
  dsimp only
  rfl

theorem runA_out (hh : k0_cond1 i = 1#1) :
    (runA (F := Ideal) c i a1 h1 a2 h2 a3 h3 a4 h4 a5 h5 a6 h6 a7 h7 X1 X2 X3 X4 X5 X6 X7 hh).1.1
      = a5.view.writes (Elt Ideal) X5 (outPieces c i a1 h1 a2 h2 a3 h3 a4 h4 a5 h5 a6 h6 a7 h7 X1 X3 X4
          (a6.view.writes (Elt Ideal) X6 (pb_k0_t1 (F := Ideal) .none c none i a1 h1 a2 h2 a3 h3 a4 h4 a5 h5 a6 h6 a7 h7 hh X2 39))
          (runA.sl.r_2 a4 X4) (runA.sl.r_3 a4 X4) (runA.sl.r_13 a4 X4) runA.sl.v336 (runA.sl.v432 a4 X4) runA.sl.v439) := by
  unfold runA
  dsimp only
  rfl

theorem runB_out (hh : ¬ k0_cond1 i = 1#1) :
    (runB (F := Ideal) c i a1 h1 a2 h2 a3 h3 a4 h4 a5 h5 a6 h6 a7 h7 X1 X2 X3 X4 X5 X6 X7 hh).1.1
      = a5.view.writes (Elt Ideal) X5 (outPieces c i a1 h1 a2 h2 a3 h3 a4 h4 a5 h5 a6 h6 a7 h7 X1 X3 X4 X6
          (runB.sl.r_2 a4 X4) (runB.sl.r_3 a4 X4) (runB.sl.r_13 a4 X4) runB.sl.v336 (runB.sl.v432 a4 X4) runB.sl.v439) := by
  unfold runB
  dsimp only
  rfl

end Cert.KernelIdeal.Hand

end
-- ==== Proof.BodyValue.lean ====
/-
  Hand-written, untrusted. What the idealized body computes, at an index: each entry of the output block is the sum over the
  whole contracted axis of the activation times the code's value times the code's scale, times the global scale.
-/
module

public import proofs.«01_k».proof.Proof.BodyBridge
public import Idealize.ShloMosaic.Lib.WritesUnit
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic

/-- A load through a unit-stride rectangle, at an index. -/
theorem readAt_unit_apply {sig : RefSig} {κ : Kind} {sp : Space} {s : Shape} {e : EltTy} {Val : EltTy → Type} (v : View sig κ sp s e)
    (f : v.ty.Contents Val) (off size : Fin s.rank → ℕ) (inb) (x : (Rect.unit off size inb).shape.Idx) (y : s.Idx)
    (h : ∀ a, (y a).val = off a + (x a).val) : v.readAt Val (Rect.unit off size inb).toLoadRect f x = v.read Val f y := by
  rw [View.readAt_apply]
  congr 1
  funext a
  exact Fin.ext ((Rect.idx_unit_val off size inb x a).trans (h a).symm)

/-- The same where the offsets are spelt another way. -/
theorem readAt_unit_at {sig : RefSig} {κ : Kind} {sp : Space} {s : Shape} {e : EltTy} {Val : EltTy → Type} (v : View sig κ sp s e)
    (f : v.ty.Contents Val) {off off' size : Fin s.rank → ℕ} {inb} (heq : off = off') (x : (Rect.unit off size inb).shape.Idx) (y : s.Idx)
    (h : ∀ a, (y a).val = off' a + (x a).val) : v.readAt Val (Rect.unit off size inb).toLoadRect f x = v.read Val f y := by
  subst heq
  exact readAt_unit_apply v f off size inb x y h

/-! ## The order of the contracted axis in the tiles -/

/-- Row `R` of tile `k` is this row of the weights. -/
def kRow (k : Fin 39) (R : Fin 256) : Fin 9984 := ⟨128 * k.val + R.val / 2 + 4992 * (R.val % 2), by omega⟩

/-- The tiles' rows run over the contracted axis once. -/
def kEquiv : Fin 39 × Fin 256 ≃ Fin 9984 where
  toFun p := kRow p.1 p.2
  invFun κ := (⟨κ.val % 4992 / 128, by omega⟩, ⟨2 * (κ.val % 128) + κ.val / 4992, by omega⟩)
  left_inv p := by
    obtain ⟨⟨k, hk⟩, ⟨R, hR⟩⟩ := p
    refine Prod.ext (Fin.ext ?_) (Fin.ext ?_)
    · show (128 * k + R / 2 + 4992 * (R % 2)) % 4992 / 128 = k
      rcases Nat.mod_two_eq_zero_or_one R with h | h <;> rw [h] <;> omega
    · show 2 * ((128 * k + R / 2 + 4992 * (R % 2)) % 128) + (128 * k + R / 2 + 4992 * (R % 2)) / 4992 = R
      rcases Nat.mod_two_eq_zero_or_one R with h | h <;> rw [h] <;> omega
  right_inv κ := by
    refine Fin.ext ?_
    show 128 * (κ.val % 4992 / 128) + (2 * (κ.val % 128) + κ.val / 4992) / 2 + 4992 * ((2 * (κ.val % 128) + κ.val / 4992) % 2) = κ.val
    have h : κ.val / 4992 = 0 ∨ κ.val / 4992 = 1 := by omega
    rcases h with h | h <;> rw [h] <;> omega

theorem sum_tiles (t : Fin 9984 → EReal) : ∑ k : Fin 39, ∑ R : Fin 256, t (kRow k R) = ∑ κ : Fin 9984, t κ := by
  rw [← Equiv.sum_comp kEquiv t, Fintype.sum_prod_type]
  simp only [kEquiv, Equiv.coe_fn_mk]

/-! ## A block's entry -/

/-- The weight at row `κ` and column `C` of a block: the code's value times its scale. -/
def wtAt (w : Vec Ideal S9984x256 .i8) (s : Vec Ideal S624x512 .fp8e4m3) (κ : Fin 9984) (C : Fin 512) : EReal :=
  codeVal (if C.val % 2 = 0 then (w (ix2 κ ⟨C.val / 2, by omega⟩) : BitVec 8) &&& 15#8 else (w (ix2 κ ⟨C.val / 2, by omega⟩) : BitVec 8) >>> 4)
    * s (ix2 ⟨κ.val / 16, by omega⟩ C)

/-- The output block. -/
def blockOut (g : EReal) (x : Vec Ideal S16x9984 .bf16) (w : Vec Ideal S9984x256 .i8) (s : Vec Ideal S624x512 .fp8e4m3) (r : Fin 16) (C : Fin 512) : EReal :=
  (∑ κ : Fin 9984, x (ix2 r κ) * wtAt w s κ C) * g

/-- Column `2 l + f` of half `cc` of a block. -/
abbrev colOf (cc f : Fin 2) (l : Fin 128) : Fin 512 := ⟨256 * cc.val + 2 * l.val + f.val, by omega⟩

theorem tile_step (cc : Fin 2) (k : Fin 39) (x : Vec Ideal S16x9984 .bf16) (w : Vec Ideal S9984x256 .i8) (s : Vec Ideal S624x512 .fp8e4m3)
    (acc : FVec Ideal S16x256 .f32) (X : Vec Ideal S16x256 .bf16) (W1 W2 : Fin 4 → Vec Ideal S32x128 .i8) (SC : Fin 2 → Fin 8 → Vec Ideal S1x2x128 .bf16)
    (hX : ∀ r R, X (ix2 r R) = x (ix2 r (kRow k R)))
    (hW1 : ∀ (j : Fin 4) (rr : Fin 32) (l : Fin 128), W1 j (ix2 rr l) = w (ix2 ⟨128 * k.val + 32 * j.val + rr.val, by omega⟩ ⟨128 * cc.val + l.val, by omega⟩))
    (hW2 : ∀ (j : Fin 4) (rr : Fin 32) (l : Fin 128), W2 j (ix2 rr l) = w (ix2 ⟨4992 + 128 * k.val + 32 * j.val + rr.val, by omega⟩ ⟨128 * cc.val + l.val, by omega⟩))
    (hSC : ∀ (f : Fin 2) (q : Fin 8) (p : Fin 2) (l : Fin 128), SC f q (ix3 0 p l) = s (ix2 ⟨8 * k.val + q.val + 312 * p.val, by omega⟩ (colOf cc f l)))
    (r : Fin 16) (f : Fin 2) (l : Fin 128) :
    tile acc X W1 W2 SC (ix2 r ⟨128 * f.val + l.val, by omega⟩)
      = acc (ix2 r ⟨128 * f.val + l.val, by omega⟩) + ∑ R : Fin 256, x (ix2 r (kRow k R)) * wtAt w s (kRow k R) (colOf cc f l) := by
  rw [tile_apply]
  congr 1
  refine Finset.sum_congr rfl fun R _ => ?_
  rw [hX, hSC]
  unfold wtAt tileCode
  congr 2
  · have hb : ((if R.val % 2 = 0 then W1 else W2) ⟨R.val / 64, by omega⟩ (ix2 ⟨R.val % 64 / 2, by omega⟩ l) : BitVec 8)
        = w (ix2 (kRow k R) ⟨(colOf cc f l).val / 2, by omega⟩) := by
      by_cases h : R.val % 2 = 0
      · rw [if_pos h, hW1]
        congr 2
        · exact Fin.ext (by show 128 * k.val + 32 * (R.val / 64) + R.val % 64 / 2 = 128 * k.val + R.val / 2 + 4992 * (R.val % 2); omega)
        · exact Fin.ext (by show 128 * cc.val + l.val = (256 * cc.val + 2 * l.val + f.val) / 2; omega)
      · rw [if_neg h, hW2]
        congr 2
        · exact Fin.ext (by show 4992 + 128 * k.val + 32 * (R.val / 64) + R.val % 64 / 2 = 128 * k.val + R.val / 2 + 4992 * (R.val % 2); omega)
        · exact Fin.ext (by show 128 * cc.val + l.val = (256 * cc.val + 2 * l.val + f.val) / 2; omega)
    rw [hb]
    obtain rfl | rfl : f = 0 ∨ f = 1 := by omega
    · dsimp only
      rw [if_pos rfl, if_pos (show (256 * cc.val + 2 * l.val + (0 : Fin 2).val) % 2 = 0 by show (256 * cc.val + 2 * l.val + 0) % 2 = 0; omega)]
    · dsimp only
      rw [if_neg (by decide), if_neg (show ¬ (256 * cc.val + 2 * l.val + (1 : Fin 2).val) % 2 = 0 by show ¬ (256 * cc.val + 2 * l.val + 1) % 2 = 0; omega)]
  · congr 1
    congr 1
    exact Fin.ext (by show 8 * k.val + R.val / 32 + 312 * (R.val % 2) = (128 * k.val + R.val / 2 + 4992 * (R.val % 2)) / 16; omega)

/-! ## The printed offsets' closed forms -/

theorem trips1 : k0_t1_loop.trips = 39 := by decide +kernel
theorem trips2 : k0_t2_loop.trips = 39 := by decide +kernel
theorem trips3 : k0_t3_loop.trips = 39 := by decide +kernel

theorem off1 : ∀ k : Fin k0_t1_loop.trips, k0_off1 k = ![0, 128 * k.val] := by decide +kernel
theorem off2 : ∀ k : Fin k0_t1_loop.trips, k0_off2 k = ![0, 4992 + 128 * k.val] := by decide +kernel
theorem off3 : ∀ k : Fin k0_t1_loop.trips, k0_off3 k = ![0, 256 * k.val] := by decide +kernel
theorem off4 : ∀ (k : Fin k0_t2_loop.trips) (j : Fin 4), k0_off4 k (BitVec.ofNat 32 j.val) = ![128 * k.val + 32 * j.val, 0] := by decide +kernel
theorem off5 : ∀ (k : Fin k0_t2_loop.trips) (j : Fin 4), k0_off5 k (BitVec.ofNat 32 j.val) = ![4992 + 128 * k.val + 32 * j.val, 0] := by decide +kernel
theorem off6 : ∀ (k : Fin k0_t2_loop.trips) (q : Fin 8),
    k0_off6 k (BitVec.ofNat 32 (q.val / 2)) (BitVec.ofNat 32 (q.val % 2)) = ![0, 2 * (8 * k.val + q.val), 0] := by decide +kernel
theorem off7 : ∀ (k : Fin k0_t2_loop.trips) (q : Fin 8),
    k0_off7 k (BitVec.ofNat 32 (q.val / 2)) (BitVec.ofNat 32 (q.val % 2)) = ![1, 2 * (8 * k.val + q.val), 0] := by decide +kernel
theorem off8 : ∀ k : Fin k0_t2_loop.trips, k0_off8 k = ![0, 256 * k.val] := by decide +kernel
theorem off9 : ∀ (k : Fin k0_t3_loop.trips) (j : Fin 4), k0_off9 k (BitVec.ofNat 32 j.val) = ![128 * k.val + 32 * j.val, 128] := by decide +kernel
theorem off10 : ∀ (k : Fin k0_t3_loop.trips) (j : Fin 4), k0_off10 k (BitVec.ofNat 32 j.val) = ![4992 + 128 * k.val + 32 * j.val, 128] := by decide +kernel
theorem off11 : ∀ (k : Fin k0_t3_loop.trips) (q : Fin 8),
    k0_off11 k (BitVec.ofNat 32 (q.val / 2)) (BitVec.ofNat 32 (q.val % 2)) = ![0, 2 * (8 * k.val + q.val), 0] := by decide +kernel
theorem off12 : ∀ (k : Fin k0_t3_loop.trips) (q : Fin 8),
    k0_off12 k (BitVec.ofNat 32 (q.val / 2)) (BitVec.ofNat 32 (q.val % 2)) = ![1, 2 * (8 * k.val + q.val), 0] := by decide +kernel
theorem off13 : ∀ k : Fin k0_t3_loop.trips, k0_off13 k = ![0, 256 * k.val] := by decide +kernel

end Cert.KernelIdeal.Hand

end
-- ==== Proof.BodySum.lean ====
/-
  Hand-written, untrusted. The idealized body's loops summed: what the scratch holds after the first loop, what each half's loop
  leaves, and the output block at an index.
-/
module

public import proofs.«01_k».proof.Proof.BodyValue

@[expose] public section

set_option maxRecDepth 16384

noncomputable section

namespace Cert.KernelIdeal.Hand

open Cert.KernelIdeal Cert.KernelIdeal.Gen
open Idealize.ShloMosaic

variable (c : Dev nD) (i : grid0.Coords)
    (a1 : Memref sig .tc .smem S1 .f32) (h1 : a1.IsWhole) (a2 : Memref sig .tc .vmem S16x9984 .bf16) (h2 : a2.IsWhole)
    (a3 : Memref sig .tc .vmem S9984x256 .i8) (h3 : a3.IsWhole) (a4 : Memref sig .tc .vmem S624x512 .fp8e4m3) (h4 : a4.IsWhole)
    (a5 : Memref sig .tc .vmem S16x512 .bf16) (h5 : a5.IsWhole) (a6 : Memref sig .tc .vmem S16x9984 .bf16) (h6 : a6.IsWhole)
    (a7 : Memref sig .tc .vmem S2x624x128 .bf16) (h7 : a7.IsWhole)
    (X1 : BufTy.Contents (Elt Ideal) a1.view.ty) (X2 : BufTy.Contents (Elt Ideal) a2.view.ty) (X3 : BufTy.Contents (Elt Ideal) a3.view.ty)
    (X4 : BufTy.Contents (Elt Ideal) a4.view.ty) (X5 : BufTy.Contents (Elt Ideal) a5.view.ty) (X6 : BufTy.Contents (Elt Ideal) a6.view.ty)
    (X7 : BufTy.Contents (Elt Ideal) a7.view.ty)

/-- The activations in the order of the tiles' rows. -/
def Interleaved (x xs : Vec Ideal S16x9984 .bf16) : Prop :=
  ∀ (r : Fin 16) (k : Fin 39) (R : Fin 256), xs (ix2 r ⟨256 * k.val + R.val, by omega⟩) = x (ix2 r (kRow k R))

/-- The scratch's scales for half `cc` of a block. -/
def ScalesOf (cc : Fin 2) (s : Vec Ideal S624x512 .fp8e4m3) (ss : Vec Ideal S2x624x128 .bf16) : Prop :=
  ∀ (f : Fin 2) (R : Fin 624) (l : Fin 128), ss (ix3 f R l) = s (ix2 ⟨R.val / 2 + 312 * (R.val % 2), by omega⟩ (colOf cc f l))

/-! ## The first loop -/

theorem il_halves (hh : k0_cond1 i = 1#1) (k : Fin k0_t1_loop.trips) (hk : k.val < 39) (r : Fin 16) (R : Fin 256) :
    shapeCast S16x256 (il (half1 i a2 X2 hh k) (half2 i a2 X2 hh k)) shapeCasts_S16x256_S16x256 (ix2 r R)
      = a2.view.read (Elt Ideal) X2 (ix2 r (kRow ⟨k.val, hk⟩ R)) := by
  have e : ∀ v : FVec Ideal S16x256 .bf16, shapeCast S16x256 v shapeCasts_S16x256_S16x256 (ix2 r R) = v (ix2 r R) := by
    intro v; pointwise
  rw [e, il_apply]
  have e1 : ∀ l : Fin 128, half1 i a2 X2 hh k (ix2 r l) = a2.view.read (Elt Ideal) X2 (ix2 r ⟨128 * k.val + l.val, by omega⟩) := by
    intro l
    unfold half1 k0_pay2
    rw [extf_apply, Ideal.extf_def]
    have e : ∀ v : FVec Ideal S16x128 .bf16, shapeCast S16x128 v shapeCasts_S16x128_S16x128 (ix2 r l) = v (ix2 r l) := by
      intro v; pointwise
    refine (e _).trans (readAt_unit_at _ _ (off1 k) _ _ fun a => ?_)
    match a with
    | ⟨0, _⟩ => show r.val = 0 + r.val; omega
    | ⟨1, _⟩ => rfl
  have e2 : ∀ l : Fin 128, half2 i a2 X2 hh k (ix2 r l) = a2.view.read (Elt Ideal) X2 (ix2 r ⟨4992 + 128 * k.val + l.val, by omega⟩) := by
    intro l
    unfold half2 k0_pay3
    rw [extf_apply, Ideal.extf_def]
    have e : ∀ v : FVec Ideal S16x128 .bf16, shapeCast S16x128 v shapeCasts_S16x128_S16x128 (ix2 r l) = v (ix2 r l) := by
      intro v; pointwise
    refine (e _).trans (readAt_unit_at _ _ (off2 k) _ _ fun a => ?_)
    match a with
    | ⟨0, _⟩ => show r.val = 0 + r.val; omega
    | ⟨1, _⟩ => rfl
  rw [e1, e2]
  by_cases h : R.val % 2 = 0
  · rw [if_pos h]
    congr 2
    exact Fin.ext (by show 128 * k.val + R.val / 2 = 128 * k.val + R.val / 2 + 4992 * (R.val % 2); omega)
  · rw [if_neg h]
    congr 2
    exact Fin.ext (by show 4992 + 128 * k.val + R.val / 2 = 128 * k.val + R.val / 2 + 4992 * (R.val % 2); omega)

theorem acts_upto (hh : k0_cond1 i = 1#1) (n : ℕ) (hn : n ≤ 39) (r : Fin 16) (k : Fin 39) (hk : k.val < n) (R : Fin 256) :
    a6.view.read (Elt Ideal) (a6.view.writes (Elt Ideal) X6 (pb_k0_t1 (F := Ideal) .none c none i a1 h1 a2 h2 a3 h3 a4 h4 a5 h5 a6 h6 a7 h7 hh X2 n))
        (ix2 r ⟨256 * k.val + R.val, by omega⟩)
      = a2.view.read (Elt Ideal) X2 (ix2 r (kRow k R)) := by
  induction n with
  | zero => omega
  | succ n ih =>
    have hs := pb_k0_t1_succ (F := Ideal) .none c none i a1 h1 a2 h2 a3 h3 a4 h4 a5 h5 a6 h6 a7 h7 hh X2 ⟨n, by rw [trips1]; omega⟩
    rw [trip1_eq] at hs
    simp only [List.cons_append, List.nil_append] at hs
    rw [hs]
    by_cases hkn : k.val = n
    · refine (View.read_writes_cons_unit_of_mem a6.view X6 _ _ _ (ix2 r ⟨256 * k.val + R.val, by omega⟩) (ix2 r R) (off3 ⟨n, by rw [trips1]; omega⟩) fun a => ?_).trans ?_
      · match a with
        | ⟨0, _⟩ => show r.val = 0 + r.val; omega
        | ⟨1, _⟩ => show 256 * k.val + R.val = 256 * n + R.val; omega
      · refine (il_halves i a2 X2 hh ⟨n, by rw [trips1]; omega⟩ (by show n < 39; omega) r R).trans ?_
        congr 3
        exact Fin.ext hkn.symm
    · refine (View.read_writes_cons_unit_of_not_mem a6.view X6 _ _ _ (ix2 r ⟨256 * k.val + R.val, by omega⟩) (off3 ⟨n, by rw [trips1]; omega⟩) 1 (.inl ?_)).trans
        (ih (by omega) (by omega))
      show 256 * k.val + R.val < 256 * n
      omega

theorem acts_interleaved (hh : k0_cond1 i = 1#1) :
    Interleaved (a2.view.read (Elt Ideal) X2)
      (a6.view.read (Elt Ideal) (a6.view.writes (Elt Ideal) X6 (pb_k0_t1 (F := Ideal) .none c none i a1 h1 a2 h2 a3 h3 a4 h4 a5 h5 a6 h6 a7 h7 hh X2 39))) :=
  fun r k R => acts_upto c i a1 h1 a2 h2 a3 h3 a4 h4 a5 h5 a6 h6 a7 h7 X2 X6 hh 39 le_rfl r k k.isLt R

/-! ## The scales in the scratch -/

theorem scaleBlock0_apply (q : Fin 624) (C : Fin 256) :
    scaleBlock0 a4 X4 (ix2 q C) = a4.view.read (Elt Ideal) X4 (ix2 q ⟨C.val, by omega⟩) :=
  readAt_unit_apply _ _ _ _ _ _ _ fun a => by
    match a with
    | ⟨0, _⟩ => show q.val = 0 + q.val; omega
    | ⟨1, _⟩ => show C.val = 0 + C.val; omega

theorem scaleBlock1_apply (q : Fin 624) (C : Fin 256) :
    scaleBlock1 a4 X4 (ix2 q C) = a4.view.read (Elt Ideal) X4 (ix2 q ⟨256 + C.val, by omega⟩) :=
  readAt_unit_apply _ _ _ _ _ _ _ fun a => by
    match a with
    | ⟨0, _⟩ => show q.val = 0 + q.val; omega
    | ⟨1, _⟩ => rfl

theorem scalePieces_read (v : Vec Ideal S624x256 .fp8e4m3) (f : BufTy.Contents (Elt Ideal) a7.view.ty) (L : List (View.Piece (Elt Ideal) S2x624x128 .bf16))
    (p : Fin 2) (R : Fin 624) (l : Fin 128) :
    a7.view.read (Elt Ideal) (a7.view.writes (Elt Ideal) f (scalePieces v ++ L)) (ix3 p R l)
      = v (ix2 ⟨R.val / 2 + 312 * (R.val % 2), by omega⟩ ⟨2 * l.val + p.val, by omega⟩) := by
  unfold scalePieces
  simp only [List.cons_append, List.nil_append]
  obtain rfl | rfl : p = 0 ∨ p = 1 := by omega
  · refine (View.read_writes_cons_unit_of_not_mem a7.view f _ _ _ (ix3 0 R l) rfl 0 (.inl (by show 0 < 1; omega))).trans ?_
    refine (View.read_writes_cons_unit_of_mem a7.view f _ _ _ (ix3 0 R l) (ix3 0 R l) rfl fun a => ?_).trans ?_
    · match a with
      | ⟨0, _⟩ => rfl
      | ⟨1, _⟩ => show R.val = 0 + R.val; omega
      | ⟨2, _⟩ => show l.val = 0 + l.val; omega
    · refine (scaleRows_apply _ R l).trans (evenScales_apply v _ l)
  · refine (View.read_writes_cons_unit_of_mem a7.view f _ _ _ (ix3 1 R l) (ix3 0 R l) rfl fun a => ?_).trans ?_
    · match a with
      | ⟨0, _⟩ => rfl
      | ⟨1, _⟩ => show R.val = 0 + R.val; omega
      | ⟨2, _⟩ => show l.val = 0 + l.val; omega
    · refine (scaleRows_apply _ R l).trans (oddScales_apply v _ l)

theorem scales0 (f : BufTy.Contents (Elt Ideal) a7.view.ty) :
    ScalesOf 0 (a4.view.read (Elt Ideal) X4) (a7.view.read (Elt Ideal) (a7.view.writes (Elt Ideal) f (scalePieces (scaleBlock0 a4 X4)))) := fun p R l => by
  have h := scalePieces_read a7 (scaleBlock0 a4 X4) f [] p R l
  rw [List.append_nil] at h
  rw [h, scaleBlock0_apply]
  congr 2
  exact Fin.ext (by show 2 * l.val + p.val = 256 * 0 + 2 * l.val + p.val; omega)

theorem scales1 (f : BufTy.Contents (Elt Ideal) a7.view.ty) (L) :
    ScalesOf 1 (a4.view.read (Elt Ideal) X4) (a7.view.read (Elt Ideal) (a7.view.writes (Elt Ideal) f (scalePieces (scaleBlock1 a4 X4) ++ L))) := fun p R l => by
  rw [scalePieces_read a7 (scaleBlock1 a4 X4) f L p R l, scaleBlock1_apply]
  congr 2
  exact Fin.ext (by show 256 + (2 * l.val + p.val) = 256 * 1 + 2 * l.val + p.val; omega)

/-! ## The two loops over the tiles -/

/-- The tiles' sum up to tile `n`. -/
def partialSum (x : Vec Ideal S16x9984 .bf16) (w : Vec Ideal S9984x256 .i8) (s : Vec Ideal S624x512 .fp8e4m3) (r : Fin 16) (C : Fin 512) (n : ℕ) (hn : n ≤ 39) : EReal :=
  ∑ k : Fin n, ∑ R : Fin 256, x (ix2 r (kRow ⟨k.val, by omega⟩ R)) * wtAt w s (kRow ⟨k.val, by omega⟩ R) C

theorem partialSum_succ (x w s r C n) (hn : n + 1 ≤ 39) :
    partialSum x w s r C (n + 1) hn
      = partialSum x w s r C n (by omega) + ∑ R : Fin 256, x (ix2 r (kRow ⟨n, by omega⟩ R)) * wtAt w s (kRow ⟨n, by omega⟩ R) C := by
  unfold partialSum
  rw [Fin.sum_univ_castSucc]
  rfl

theorem zero_apply (j) : (k0_pay176 (F := Ideal)) j = 0 := by
  unfold k0_pay176
  pointwise

theorem half0_value (x : Vec Ideal S16x9984 .bf16) (s : Vec Ideal S624x512 .fp8e4m3) (hx : Interleaved x (a6.view.read (Elt Ideal) X6))
    (hs : ScalesOf 0 s (a7.view.read (Elt Ideal) X7)) (v127 v128) (r : Fin 16) (f : Fin 2) (l : Fin 128) (n : ℕ) (hn : n ≤ 39) :
    st_k0_t2 (F := Ideal) .none c none i a1 h1 a2 h2 a3 h3 a4 h4 a5 h5 a6 h6 a7 h7 v127 v128 X3 X6 X7 k0_pay176 n (ix2 r ⟨128 * f.val + l.val, by omega⟩)
      = partialSum x (a3.view.read (Elt Ideal) X3) s r (colOf 0 f l) n hn := by
  induction n with
  | zero =>
    rw [st_k0_t2_zero, zero_apply]
    rfl
  | succ n ih =>
    have hs' := st_k0_t2_succ (F := Ideal) .none c none i a1 h1 a2 h2 a3 h3 a4 h4 a5 h5 a6 h6 a7 h7 v127 v128 X3 X6 X7 k0_pay176 ⟨n, by rw [trips2]; omega⟩
    rw [trip2_eq] at hs'
    rw [hs', partialSum_succ, ← ih (by omega)]
    refine tile_step 0 ⟨n, by omega⟩ x (a3.view.read (Elt Ideal) X3) s _ _ _ _ _ (fun r R => ?_) (fun j rr l => ?_) (fun j rr l => ?_) (fun f q p l => ?_) r f l
    · refine (readAt_unit_at _ _ (off8 ⟨n, by rw [trips2]; omega⟩) _ (ix2 r ⟨256 * n + R.val, by omega⟩) fun a => ?_).trans (hx r ⟨n, by omega⟩ R)
      match a with
      | ⟨0, _⟩ => show r.val = 0 + r.val; omega
      | ⟨1, _⟩ => rfl
    · refine readAt_unit_at _ _ (off4 ⟨n, by rw [trips2]; omega⟩ j) _ _ fun a => ?_
      match a with
      | ⟨0, _⟩ => rfl
      | ⟨1, _⟩ => show 128 * 0 + l.val = 0 + l.val; omega
    · refine readAt_unit_at _ _ (off5 ⟨n, by rw [trips2]; omega⟩ j) _ _ fun a => ?_
      match a with
      | ⟨0, _⟩ => rfl
      | ⟨1, _⟩ => show 128 * 0 + l.val = 0 + l.val; omega
    · have er : (⟨(2 * (8 * n + q.val) + p.val) / 2 + 312 * ((2 * (8 * n + q.val) + p.val) % 2), by omega⟩ : Fin 624) = ⟨8 * n + q.val + 312 * p.val, by omega⟩ :=
        Fin.ext (by show (2 * (8 * n + q.val) + p.val) / 2 + 312 * ((2 * (8 * n + q.val) + p.val) % 2) = 8 * n + q.val + 312 * p.val; omega)
      have hz := hs f ⟨2 * (8 * n + q.val) + p.val, by omega⟩ l
      rw [show (⟨(⟨2 * (8 * n + q.val) + p.val, by omega⟩ : Fin 624).val / 2 + 312 * ((⟨2 * (8 * n + q.val) + p.val, by omega⟩ : Fin 624).val % 2), by omega⟩ : Fin 624) = ⟨8 * n + q.val + 312 * p.val, by omega⟩ from er] at hz
      refine Eq.trans ?_ hz
      unfold scalesA
      obtain rfl | rfl : f = 0 ∨ f = 1 := by omega
      · rw [if_pos rfl]
        refine readAt_unit_at _ _ (off6 ⟨n, by rw [trips2]; omega⟩ q) _ _ fun a => ?_
        match a with
        | ⟨0, _⟩ => rfl
        | ⟨1, _⟩ => rfl
        | ⟨2, _⟩ => show l.val = 0 + l.val; omega
      · rw [if_neg (by decide)]
        refine readAt_unit_at _ _ (off7 ⟨n, by rw [trips2]; omega⟩ q) _ _ fun a => ?_
        match a with
        | ⟨0, _⟩ => rfl
        | ⟨1, _⟩ => rfl
        | ⟨2, _⟩ => show l.val = 0 + l.val; omega

theorem half1_value (x : Vec Ideal S16x9984 .bf16) (s : Vec Ideal S624x512 .fp8e4m3) (hx : Interleaved x (a6.view.read (Elt Ideal) X6))
    (hs : ScalesOf 1 s (a7.view.read (Elt Ideal) X7)) (v1 v2 v3 v4) (r : Fin 16) (f : Fin 2) (l : Fin 128) (n : ℕ) (hn : n ≤ 39) :
    st_k0_t3 (F := Ideal) .none c none i a1 h1 a2 h2 a3 h3 a4 h4 a5 h5 a6 h6 a7 h7 v1 v2 v3 v4 X3 X6 X7 k0_pay176 n (ix2 r ⟨128 * f.val + l.val, by omega⟩)
      = partialSum x (a3.view.read (Elt Ideal) X3) s r (colOf 1 f l) n hn := by
  induction n with
  | zero =>
    rw [st_k0_t3_zero, zero_apply]
    rfl
  | succ n ih =>
    have hs' := st_k0_t3_succ (F := Ideal) .none c none i a1 h1 a2 h2 a3 h3 a4 h4 a5 h5 a6 h6 a7 h7 v1 v2 v3 v4 X3 X6 X7 k0_pay176 ⟨n, by rw [trips3]; omega⟩
    rw [trip3_eq] at hs'
    rw [hs', partialSum_succ, ← ih (by omega)]
    refine tile_step 1 ⟨n, by omega⟩ x (a3.view.read (Elt Ideal) X3) s _ _ _ _ _ (fun r R => ?_) (fun j rr l => ?_) (fun j rr l => ?_) (fun f q p l => ?_) r f l
    · refine (readAt_unit_at _ _ (off13 ⟨n, by rw [trips3]; omega⟩) _ (ix2 r ⟨256 * n + R.val, by omega⟩) fun a => ?_).trans (hx r ⟨n, by omega⟩ R)
      match a with
      | ⟨0, _⟩ => show r.val = 0 + r.val; omega
      | ⟨1, _⟩ => rfl
    · refine readAt_unit_at _ _ (off9 ⟨n, by rw [trips3]; omega⟩ j) _ _ fun a => ?_
      match a with
      | ⟨0, _⟩ => rfl
      | ⟨1, _⟩ => rfl
    · refine readAt_unit_at _ _ (off10 ⟨n, by rw [trips3]; omega⟩ j) _ _ fun a => ?_
      match a with
      | ⟨0, _⟩ => rfl
      | ⟨1, _⟩ => rfl
    · have er : (⟨(2 * (8 * n + q.val) + p.val) / 2 + 312 * ((2 * (8 * n + q.val) + p.val) % 2), by omega⟩ : Fin 624) = ⟨8 * n + q.val + 312 * p.val, by omega⟩ :=
        Fin.ext (by show (2 * (8 * n + q.val) + p.val) / 2 + 312 * ((2 * (8 * n + q.val) + p.val) % 2) = 8 * n + q.val + 312 * p.val; omega)
      have hz := hs f ⟨2 * (8 * n + q.val) + p.val, by omega⟩ l
      rw [show (⟨(⟨2 * (8 * n + q.val) + p.val, by omega⟩ : Fin 624).val / 2 + 312 * ((⟨2 * (8 * n + q.val) + p.val, by omega⟩ : Fin 624).val % 2), by omega⟩ : Fin 624) = ⟨8 * n + q.val + 312 * p.val, by omega⟩ from er] at hz
      refine Eq.trans ?_ hz
      unfold scalesB
      obtain rfl | rfl : f = 0 ∨ f = 1 := by omega
      · rw [if_pos rfl]
        refine readAt_unit_at _ _ (off11 ⟨n, by rw [trips3]; omega⟩ q) _ _ fun a => ?_
        match a with
        | ⟨0, _⟩ => rfl
        | ⟨1, _⟩ => rfl
        | ⟨2, _⟩ => show l.val = 0 + l.val; omega
      · rw [if_neg (by decide)]
        refine readAt_unit_at _ _ (off12 ⟨n, by rw [trips3]; omega⟩ q) _ _ fun a => ?_
        match a with
        | ⟨0, _⟩ => rfl
        | ⟨1, _⟩ => rfl
        | ⟨2, _⟩ => show l.val = 0 + l.val; omega

/-! ## The output block -/

theorem outHalf_apply (acc : FVec Ideal S16x256 .f32) (g : Elt Ideal .f32) (r : Fin 16) (C : Fin 256) :
    outHalf acc g (ix2 r C) = acc (ix2 r ⟨128 * (C.val % 2) + C.val / 2, by omega⟩) * g := by
  unfold outHalf
  rw [il_apply]
  by_cases h : C.val % 2 = 0
  · rw [if_pos h]
    unfold k0_pay180 k0_pay179
    pointwise
    congr 3
    exact Fin.ext (by show C.val / 2 = 128 * (C.val % 2) + C.val / 2; omega)
  · rw [if_neg h]
    unfold k0_pay181 k0_pay179
    pointwise
    congr 3
    exact Fin.ext (by show 128 + C.val / 2 = 128 * (C.val % 2) + C.val / 2; omega)

theorem partialSum_all (x w s r C) : partialSum x w s r C 39 le_rfl = ∑ κ : Fin 9984, x (ix2 r κ) * wtAt w s κ C :=
  sum_tiles fun κ => x (ix2 r κ) * wtAt w s κ C

theorem gWord_eq : gWord a1 X1 = a1.view.read (Elt Ideal) X1 (fun a => ⟨0, by revert a; decide⟩) :=
  readAt_unit_apply _ _ _ _ _ _ _ fun a => by
    match a with
    | ⟨0, _⟩ => rfl

theorem outPieces_read (x : Vec Ideal S16x9984 .bf16) (hx : Interleaved x (a6.view.read (Elt Ideal) X6)) (v127 v128 v1 v2 v3 v4)
    (r : Fin 16) (C : Fin 512) :
    a5.view.read (Elt Ideal) (a5.view.writes (Elt Ideal) X5 (outPieces c i a1 h1 a2 h2 a3 h3 a4 h4 a5 h5 a6 h6 a7 h7 X1 X3 X4 X6 v127 v128 v1 v2 v3 v4)) (ix2 r C)
      = blockOut (gWord a1 X1) x (a3.view.read (Elt Ideal) X3) (a4.view.read (Elt Ideal) X4) r C := by
  unfold outPieces blockOut
  by_cases hC : C.val < 256
  · refine (View.read_writes_cons_unit_of_not_mem a5.view X5 _ _ _ (ix2 r C) rfl 1 (.inl (by show C.val < 256; omega))).trans ?_
    refine (View.read_writes_cons_unit_of_mem a5.view X5 _ _ _ (ix2 r C) (ix2 r ⟨C.val, hC⟩) rfl fun a => ?_).trans ?_
    · match a with
      | ⟨0, _⟩ => show r.val = 0 + r.val; omega
      | ⟨1, _⟩ => show C.val = 0 + C.val; omega
    · refine (outHalf_apply _ _ r ⟨C.val, hC⟩).trans ?_
      congr 1
      refine (half0_value c i a1 h1 a2 h2 a3 h3 a4 h4 a5 h5 a6 h6 a7 h7 X3 X6 _ x _ hx (scales0 a4 a7 X4 _) v127 v128 r
        ⟨C.val % 2, by omega⟩ ⟨C.val / 2, by omega⟩ 39 le_rfl).trans ?_
      rw [partialSum_all]
      congr 1
      funext κ
      congr 2
      exact Fin.ext (by show 256 * 0 + 2 * (C.val / 2) + C.val % 2 = C.val; omega)
  · refine (View.read_writes_cons_unit_of_mem a5.view X5 _ _ _ (ix2 r C) (ix2 r ⟨C.val - 256, by omega⟩) rfl fun a => ?_).trans ?_
    · match a with
      | ⟨0, _⟩ => show r.val = 0 + r.val; omega
      | ⟨1, _⟩ => show C.val = 256 + (C.val - 256); omega
    · refine (outHalf_apply _ _ r ⟨C.val - 256, by omega⟩).trans ?_
      congr 1
      refine (half1_value c i a1 h1 a2 h2 a3 h3 a4 h4 a5 h5 a6 h6 a7 h7 X3 X6 _ x _ hx (scales1 a4 a7 X4 _ _) v1 v2 v3 v4 r
        ⟨(C.val - 256) % 2, by omega⟩ ⟨(C.val - 256) / 2, by omega⟩ 39 le_rfl).trans ?_
      rw [partialSum_all]
      congr 1
      funext κ
      congr 2
      exact Fin.ext (by show 256 * 1 + 2 * ((C.val - 256) / 2) + (C.val - 256) % 2 = C.val; omega)

/-- What the run at the first grid point leaves in the output's staging buffer. -/
theorem runA_value (hh : k0_cond1 i = 1#1) (r : Fin 16) (C : Fin 512) :
    a5.view.read (Elt Ideal) (runA (F := Ideal) c i a1 h1 a2 h2 a3 h3 a4 h4 a5 h5 a6 h6 a7 h7 X1 X2 X3 X4 X5 X6 X7 hh).1.1 (ix2 r C)
      = blockOut (gWord a1 X1) (a2.view.read (Elt Ideal) X2) (a3.view.read (Elt Ideal) X3) (a4.view.read (Elt Ideal) X4) r C := by
  rw [runA_out]
  exact outPieces_read c i a1 h1 a2 h2 a3 h3 a4 h4 a5 h5 a6 h6 a7 h7 X1 X3 X4 X5 _ _
    (acts_interleaved c i a1 h1 a2 h2 a3 h3 a4 h4 a5 h5 a6 h6 a7 h7 X2 X6 hh) _ _ _ _ _ _ r C

/-- What it leaves in the scratch that holds the activations. -/
theorem runA_scratch (hh : k0_cond1 i = 1#1) :
    Interleaved (a2.view.read (Elt Ideal) X2)
      (a6.view.read (Elt Ideal) (runA (F := Ideal) c i a1 h1 a2 h2 a3 h3 a4 h4 a5 h5 a6 h6 a7 h7 X1 X2 X3 X4 X5 X6 X7 hh).1.2.1) := by
  rw [runA_acts]
  exact acts_interleaved c i a1 h1 a2 h2 a3 h3 a4 h4 a5 h5 a6 h6 a7 h7 X2 X6 hh

/-- What the run at any other grid point leaves in the output's staging buffer. -/
theorem runB_value (hh : ¬ k0_cond1 i = 1#1) (x : Vec Ideal S16x9984 .bf16) (hx : Interleaved x (a6.view.read (Elt Ideal) X6)) (r : Fin 16) (C : Fin 512) :
    a5.view.read (Elt Ideal) (runB (F := Ideal) c i a1 h1 a2 h2 a3 h3 a4 h4 a5 h5 a6 h6 a7 h7 X1 X2 X3 X4 X5 X6 X7 hh).1.1 (ix2 r C)
      = blockOut (gWord a1 X1) x (a3.view.read (Elt Ideal) X3) (a4.view.read (Elt Ideal) X4) r C := by
  rw [runB_out]
  exact outPieces_read c i a1 h1 a2 h2 a3 h3 a4 h4 a5 h5 a6 h6 a7 h7 X1 X3 X4 X5 X6 x hx _ _ _ _ _ _ r C

end Cert.KernelIdeal.Hand

end
-- ==== Proof.KernelBlocks.lean ====
/-
  Hand-written, untrusted. What the idealized kernel's region is to leave in its result, and what the body finds in its
  staging buffers: the activations and the global scale whole at every point, the packed codes' and the scales' blocks on
  the columns inside their arrays (the last block overhangs). From those, the output block on the columns inside.
-/
module

public import proofs.«01_k».proof.Proof.BodySum
public import Idealize.ShloMosaic.Lib.Pipeline.Frame
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open Idealize.ShloMosaic.Pipeline (RDat)

variable (m : (ℓ : Loc nD τ sig) → Buf (Elt Ideal) ℓ)

/-! ## The result -/

/-- The arrays as the region finds them: activations, packed codes, scales, global scale. -/
def xArr (c : Dev nD) : Vec Ideal S16x9984 .bf16 := V m c main_v1
def wArr (c : Dev nD) : Vec Ideal S9984x15488 .i8 := V m c main_arg1
def sArr (c : Dev nD) : Vec Ideal S624x30976 .fp8e4m3 := V m c main_arg2
def gArr (c : Dev nD) : Vec Ideal S1 .f32 := V m c main_v0

/-- The weight in row `κ`, column `n` of the whole matrix: its code's value times its scale. -/
def weightAt (w : Vec Ideal S9984x15488 .i8) (s : Vec Ideal S624x30976 .fp8e4m3) (κ : Fin 9984) (n : Fin 30976) : EReal :=
  codeVal (if n.val % 2 = 0 then w (ix2 κ ⟨n.val / 2, by omega⟩) &&& 15#8 else w (ix2 κ ⟨n.val / 2, by omega⟩) >>> 4)
    * s (ix2 ⟨κ.val / 16, by omega⟩ n)

/-- The result's entry in row `r`, column `n`. -/
def outVal (x : Vec Ideal S16x9984 .bf16) (w : Vec Ideal S9984x15488 .i8) (s : Vec Ideal S624x30976 .fp8e4m3) (g : EReal)
    (r : Fin 16) (n : Fin 30976) : EReal :=
  (∑ κ : Fin 9984, x (ix2 r κ) * weightAt w s κ n) * g

/-- A block of 512 columns off blocks of codes and scales that agree with the arrays on the columns inside. -/
theorem blockOut_eq (x : Vec Ideal S16x9984 .bf16) (w : Vec Ideal S9984x15488 .i8) (s : Vec Ideal S624x30976 .fp8e4m3) (g : EReal)
    (t : Nat) (Y2 : Vec Ideal S9984x256 .i8) (Y3 : Vec Ideal S624x512 .fp8e4m3)
    (h2 : ∀ κ (l : Fin 256) (h : 256 * t + l.val < 15488), Y2 (ix2 κ l) = w (ix2 κ ⟨256 * t + l.val, h⟩))
    (h3 : ∀ q (C : Fin 512) (h : 512 * t + C.val < 30976), Y3 (ix2 q C) = s (ix2 q ⟨512 * t + C.val, h⟩))
    (r : Fin 16) (C : Fin 512) (hC : 512 * t + C.val < 30976) :
    blockOut g x Y2 Y3 r C = outVal x w s g r ⟨512 * t + C.val, hC⟩ := by
  unfold blockOut outVal
  refine congrArg (· * g) (Finset.sum_congr rfl fun κ _ => congrArg (x (ix2 r κ) * ·) ?_)
  unfold wtAt weightAt
  have e : (⟨256 * t + C.val / 2, by omega⟩ : Fin 15488) = ⟨(512 * t + C.val) / 2, by omega⟩ := Fin.ext (by show 256 * t + C.val / 2 = (512 * t + C.val) / 2; omega)
  rw [h3 _ C hC, h2 κ ⟨C.val / 2, by omega⟩ (by show 256 * t + C.val / 2 < 15488; omega)]
  have hp : (512 * t + C.val) % 2 = C.val % 2 := by omega
  simp only [hp, e]

/-! ## The staging buffers before the body -/

theorem index2 : ∀ t : Fin cfg0.N, (cfg0.win 2).index t 1 = t.val := by decide +kernel
theorem index3 : ∀ t : Fin cfg0.N, (cfg0.win 3).index t 1 = t.val := by decide +kernel
theorem index4 : ∀ t : Fin cfg0.N, (cfg0.win 4).index t 1 = t.val := by decide +kernel
theorem xsize2_0 : ∀ t : Fin cfg0.N, (cfg0.win 2).xsize (grid0.coords t) 0 = 9984 := by decide +kernel
theorem xsize2_1 : ∀ t : Fin cfg0.N, (cfg0.win 2).xsize (grid0.coords t) 1 = min 256 (15488 - 256 * t.val) := by decide +kernel
theorem xsize3_0 : ∀ t : Fin cfg0.N, (cfg0.win 3).xsize (grid0.coords t) 0 = 624 := by decide +kernel
theorem xsize3_1 : ∀ t : Fin cfg0.N, (cfg0.win 3).xsize (grid0.coords t) 1 = min 512 (30976 - 512 * t.val) := by decide +kernel
theorem xsize4_1 : ∀ t : Fin cfg0.N, (cfg0.win 4).xsize (grid0.coords t) 1 = min 512 (30976 - 512 * t.val) := by decide +kernel

variable {m} {c : Dev nD} (rd : RDat τ (Elt Ideal) Unit ℕ (UR sig nD τ) ℕ cfg0 c)

/-- What a fetch lands inside the array. -/
theorem fetched_inside (w : Fin cfg0.W) (t : Fin cfg0.N) (d) (j : (cfg0.win w).block.Idx) (h : ∀ a, (j a).val < (cfg0.win w).xsize (cfg0.grid.coords t) a) :
    rd.fetched w t d j = rd.blockOf w t (fun a => ⟨(j a).val, h a⟩) := by
  unfold RDat.fetched Pipeline.Window.fill
  rw [dif_pos (((cfg0.win w).moved_iff _ j).mpr h)]

theorem fetched_codes (t : Fin cfg0.N) (d) (hA : rd.A 2 = V m c main_arg1) (κ : Fin 9984) (l : Fin 256) (h : 256 * t.val + l.val < 15488) :
    rd.fetched 2 t d (ix2 κ l) = wArr m c (ix2 κ ⟨256 * t.val + l.val, h⟩) := by
  refine (fetched_inside rd 2 t d (ix2 κ l) fun a => ?_).trans ?_
  · match a with
    | ⟨0, _⟩ => exact lt_of_lt_of_eq κ.isLt (xsize2_0 t).symm
    | ⟨1, _⟩ => exact lt_of_lt_of_eq (show l.val < min 256 (15488 - 256 * t.val) by omega) (xsize2_1 t).symm
  · unfold RDat.blockOf
    rw [hA]
    refine congrArg (V m c main_arg1) (funext fun a => Fin.ext ?_)
    match a with
    | ⟨0, _⟩ => exact (ValueKit.view_emb_slice_whole_unit_val _ _ _ _ _ _).trans (by show 0 * 9984 + κ.val = κ.val; omega)
    | ⟨1, _⟩ => exact (ValueKit.view_emb_slice_whole_unit_val _ _ _ _ _ _).trans (by show (cfg0.win 2).index t 1 * 256 + l.val = 256 * t.val + l.val; rw [index2]; omega)

theorem fetched_scales (t : Fin cfg0.N) (d) (hA : rd.A 3 = V m c main_arg2) (q : Fin 624) (C : Fin 512) (h : 512 * t.val + C.val < 30976) :
    rd.fetched 3 t d (ix2 q C) = sArr m c (ix2 q ⟨512 * t.val + C.val, h⟩) := by
  refine (fetched_inside rd 3 t d (ix2 q C) fun a => ?_).trans ?_
  · match a with
    | ⟨0, _⟩ => exact lt_of_lt_of_eq q.isLt (xsize3_0 t).symm
    | ⟨1, _⟩ => exact lt_of_lt_of_eq (show C.val < min 512 (30976 - 512 * t.val) by omega) (xsize3_1 t).symm
  · unfold RDat.blockOf
    rw [hA]
    refine congrArg (V m c main_arg2) (funext fun a => Fin.ext ?_)
    match a with
    | ⟨0, _⟩ => exact (ValueKit.view_emb_slice_whole_unit_val _ _ _ _ _ _).trans (by show 0 * 624 + q.val = q.val; omega)
    | ⟨1, _⟩ => exact (ValueKit.view_emb_slice_whole_unit_val _ _ _ _ _ _).trans (by show (cfg0.win 3).index t 1 * 512 + C.val = 512 * t.val + C.val; rw [index3]; omega)

theorem fetched_global (t : Fin cfg0.N) (d) (hA : rd.A 0 = V m c main_v0) : rd.fetched 0 t d = gArr m c := by
  funext j
  refine (fetched_inside rd 0 t d j fun a => (j a).isLt).trans ?_
  unfold RDat.blockOf
  rw [hA]
  refine congrArg (V m c main_v0) (funext fun a => Fin.ext ?_)
  match a with
  | ⟨0, _⟩ => exact (ValueKit.view_emb_slice_whole_unit_val _ _ _ _ _ _).trans (by show 0 * 1 + (j 0).val = (j 0).val; omega)

theorem fetched_acts (t : Fin cfg0.N) (d) (hA : rd.A 1 = V m c main_v1) : rd.fetched 1 t d = xArr m c := by
  funext j
  refine (fetched_inside rd 1 t d j fun a => (j a).isLt).trans ?_
  unfold RDat.blockOf
  rw [hA]
  refine congrArg (V m c main_v1) (funext fun a => Fin.ext ?_)
  match a with
  | ⟨0, _⟩ => exact (ValueKit.view_emb_slice_whole_unit_val _ _ _ _ _ _).trans (by show 0 * 16 + (j 0).val = (j 0).val; omega)
  | ⟨1, _⟩ => exact (ValueKit.view_emb_slice_whole_unit_val _ _ _ _ _ _).trans (by show 0 * 9984 + (j 1).val = (j 1).val; omega)

/-- A window fetched at the first point only, whose buffer the body leaves alone, is found at that fetch's contents. -/
theorem finds_const (w : Fin cfg0.W) (Z : (cfg0.win w).block.Idx → Elt Ideal (cfg0.win w).elt)
    (hfetch : ∀ t, (cfg0.win w).fetch t = true ↔ t.val % 61 = 0) (hflush : ∀ t, (cfg0.win w).flush t = false)
    (hZ : ∀ t d, rd.fetched w t d = Z) (hafter : ∀ t Y X, rd.after w t Y X → X = Y) :
    ∀ (n : Nat) (hn : n < cfg0.N) (Y), rd.Finds w ⟨n, hn⟩ Y → Y = Z
  | 0, hn, Y, h => by
    obtain ⟨d, rfl⟩ := (rd.finds_of_fetch ((hfetch _).mpr rfl) Y).mp h
    exact hZ _ d
  | n + 1, hn, Y, h => by
    have hN : n + 1 < 61 := hn
    have hf : (cfg0.win w).fetch ⟨n + 1, hn⟩ = false := by
      rw [← Bool.not_eq_true, hfetch]
      show ¬ (n + 1) % 61 = 0
      omega
    rcases (rd.finds_of_pos hf (Nat.succ_ne_zero n) Y).mp h with h' | ⟨Y', hY', ha⟩
    · rw [hflush] at h'; exact absurd h' Bool.false_ne_true
    · rw [hafter _ _ _ ha]
      exact finds_const w Z hfetch hflush hZ hafter n (by omega) Y' hY'

end Cert.KernelIdeal.Hand

end
-- ==== Proof.KernelValue.lean ====
/-
  Hand-written, untrusted. The idealized kernel's run for its value: relational proof data that say of the output's staging
  buffer what its columns inside the array hold, the activations' scratch interleaved after the first point, and the
  result array at the end.
-/
module

public import proofs.«01_k».proof.Proof.KernelBlocks
public import proofs.«01_k».proof.Proof.IdealFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- The result's entry in row `r`, column `n`, off the arrays as the region finds them. -/
def outAt (c : Dev nD) (r : Fin 16) (n : Fin 30976) : EReal :=
  outVal (xArr m c) (wArr m c) (sArr m c) (gArr m c (fun a => ⟨0, by revert a; decide⟩)) r n

/-- The output's staging buffer after point `t`, on the columns inside the array. -/
def OutOk (c : Dev nD) (t : Nat) (X : Vec Ideal S16x512 .bf16) : Prop :=
  ∀ (r : Fin 16) (C : Fin 512) (hC : 512 * t + C.val < 30976), X (ix2 r C) = outAt m c r ⟨512 * t + C.val, hC⟩

/-- The two scratch buffers and the generator register; after the first point the activations' scratch is interleaved. -/
def inv (c : Dev nD) (n : Nat) : sProp 𝕄 :=
  iprop(((∃ d, ⌜n ≠ 0 → Interleaved (xArr m c) d⌝ ∗ owns (c : Thread nD τ) xsM fullShare d) ∗ (∃ d, owns (c : Thread nD τ) ssM fullShare d))
    ∗ ∃ r, prngReg c r)

/-- The proof data: the inputs' staging buffers as found, the output's as `OutOk` says. -/
def vdat (c : Dev nD) : RDat τ (Elt Ideal) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t _ X => OutOk m c t.val X
    | ⟨_ + 5, h⟩ => absurd h (Nat.not_lt.2 (Nat.le_add_left _ _))
  Φ t := inv m c t.val
  q _ := fullShare
  owed _ := 0

theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)
theorem whole4 (t : Fin cfg0.N) : (st0_4 t).IsWhole := hstage0_4 ((cfg0.slots t 4).cast nbuf0_4)

theorem cond_iff : ∀ t : Fin cfg0.N, k0_cond1 (grid0.coords t) = 1#1 ↔ t.val = 0 := by decide +kernel

/-- What the body is called with at point `t`, the windows' buffers at `Y`, and what it returns. -/
def vPre (c : Dev nD) (t : Fin cfg0.N) (Y : (w : Fin cfg0.W) → (cfg0.win w).block.Idx → Elt Ideal (cfg0.win w).elt) : sProp 𝕄 :=
  iprop(inv m c t.val ∗ (vdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4))
def vPost (c : Dev nD) (t : Fin cfg0.N) (Y : (w : Fin cfg0.W) → (cfg0.win w).block.Idx → Elt Ideal (cfg0.win w).elt) : sProp 𝕄 :=
  iprop(inv m c (t.val + 1) ∗ (vdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ ∃ X, ⌜OutOk m c t.val X⌝ ∗ owns (c : Thread nD τ) (st0_4 t) fullShare X)

/-- The output block, off what the body finds. -/
theorem outOk_of (c : Dev nD) (t : Nat) (Y0 : Vec Ideal S1 .f32) (h0 : Y0 = gArr m c) (Y2 : Vec Ideal S9984x256 .i8) (Y3 : Vec Ideal S624x512 .fp8e4m3)
    (h2 : ∀ κ (l : Fin 256) (h : 256 * t + l.val < 15488), Y2 (ix2 κ l) = wArr m c (ix2 κ ⟨256 * t + l.val, h⟩))
    (h3 : ∀ q (C : Fin 512) (h : 512 * t + C.val < 30976), Y3 (ix2 q C) = sArr m c (ix2 q ⟨512 * t + C.val, h⟩))
    (X : Vec Ideal S16x512 .bf16)
    (hX : ∀ r C, X (ix2 r C) = blockOut (Y0 (fun a => ⟨0, by revert a; decide⟩)) (xArr m c) Y2 Y3 r C) : OutOk m c t X := by
  intro r C hC
  rw [hX, h0]
  exact blockOut_eq _ _ _ _ t Y2 Y3 h2 h3 r C hC

theorem vbody (c : Dev nD) (t : Fin cfg0.N) (Y) (h0 : Y 0 = gArr m c) (h1 : Y 1 = xArr m c)
    (h2 : ∀ (κ : Fin 9984) (l : Fin 256) (h : 256 * t.val + l.val < 15488), Y 2 (ix2 κ l) = wArr m c (ix2 κ ⟨256 * t.val + l.val, h⟩))
    (h3 : ∀ (q : Fin 624) (C : Fin 512) (h : 512 * t.val + C.val < 30976), Y 3 (ix2 q C) = sArr m c (ix2 q ⟨512 * t.val + C.val, h⟩)) :
    vPre m c t Y ⊢ wp Idealize.ShloMosaic.frame (wpE (defs₀ (F := Ideal)) Variants.none c none) Set.univ (bodyAt0 t) (fun _ => vPost m c t Y) := by
  unfold vPre vPost bodyAt0 inv owns
  simp only [cc0__body_eq_skeleton]
  iintro ⟨⟨⟨⟨%d6, %hd6, %f6, %e6, H6⟩, ⟨%d7, %f7, -, H7⟩⟩, Hg⟩, HO, ⟨%f1, %e1, H1⟩, ⟨%f2, %e2, H2⟩, ⟨%f3, %e3, H3⟩, ⟨%f4, %e4, H4⟩, ⟨%f5, -, H5⟩⟩
  by_cases hc : k0_cond1 (grid0.coords t) = 1#1
  · iapply ((runA c (grid0.coords t) (st0_0 t) (whole0 t) (st0_1 t) (whole1 t) (st0_2 t) (whole2 t) (st0_3 t) (whole3 t) (st0_4 t) (whole4 t) xsM (Memref.isWhole_whole _) ssM (Memref.isWhole_whole _) f1 f2 f3 f4 f5 f6 f7 hc).2 _)
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    iintro ⟨H1, H2, H3, H4, H5, H6, H7⟩
    isplitl [H6 H7 Hg]
    · isplitl [H6 H7]
      · isplitl [H6]
        · iexists _
          isplitr; swap
          · iexists _; isplitr; swap; · iexact H6
            ipureintro; rfl
          ipureintro
          intro _
          have h := runA_scratch c (grid0.coords t) (st0_0 t) (whole0 t) (st0_1 t) (whole1 t) (st0_2 t) (whole2 t) (st0_3 t) (whole3 t) (st0_4 t) (whole4 t) xsM (Memref.isWhole_whole _) ssM (Memref.isWhole_whole _) f1 f2 f3 f4 f5 f6 f7 hc
          rw [e2, h1] at h
          exact h
        · iexists _, _; isplitr; swap; · iexact H7
          ipureintro; rfl
      iexact Hg
    isplitl [HO]; · iexact HO
    isplitl [H1]; · iexists _; isplitr; swap; · iexact H1
                    ipureintro; exact e1
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    iexists _
    isplitr; swap
    · iexists _; isplitr; swap; · iexact H5
      ipureintro; rfl
    ipureintro
    refine outOk_of m c t.val (Y 0) h0 (Y 2) (Y 3) h2 h3 _ fun r C => ?_
    refine (runA_value c (grid0.coords t) (st0_0 t) (whole0 t) (st0_1 t) (whole1 t) (st0_2 t) (whole2 t) (st0_3 t) (whole3 t) (st0_4 t) (whole4 t) xsM (Memref.isWhole_whole _) ssM (Memref.isWhole_whole _) f1 f2 f3 f4 f5 f6 f7 hc r C).trans ?_
    rw [gWord_eq, e1, e2, e3, e4, h1]
  · iapply ((runB c (grid0.coords t) (st0_0 t) (whole0 t) (st0_1 t) (whole1 t) (st0_2 t) (whole2 t) (st0_3 t) (whole3 t) (st0_4 t) (whole4 t) xsM (Memref.isWhole_whole _) ssM (Memref.isWhole_whole _) f1 f2 f3 f4 f5 f6 f7 hc).2 _)
    have hx : Interleaved (xArr m c) (xsM.view.read (Elt Ideal) f6) := by
      rw [e6]; exact hd6 fun e => hc ((cond_iff t).mpr e)
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    iintro ⟨H1, H2, H3, H4, H5, H6, H7⟩
    isplitl [H6 H7 Hg]
    · isplitl [H6 H7]
      · isplitl [H6]
        · iexists _
          isplitr; swap
          · iexists _; isplitr; swap; · iexact H6
            ipureintro; rfl
          ipureintro
          exact fun _ => hx
        · iexists _, _; isplitr; swap; · iexact H7
          ipureintro; rfl
      iexact Hg
    isplitl [HO]; · iexact HO
    isplitl [H1]; · iexists _; isplitr; swap; · iexact H1
                    ipureintro; exact e1
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    iexists _
    isplitr; swap
    · iexists _; isplitr; swap; · iexact H5
      ipureintro; rfl
    ipureintro
    refine outOk_of m c t.val (Y 0) h0 (Y 2) (Y 3) h2 h3 _ fun r C => ?_
    refine (runB_value c (grid0.coords t) (st0_0 t) (whole0 t) (st0_1 t) (whole1 t) (st0_2 t) (whole2 t) (st0_3 t) (whole3 t) (st0_4 t) (whole4 t) xsM (Memref.isWhole_whole _) ssM (Memref.isWhole_whole _) f1 f2 f3 f4 f5 f6 f7 hc (xArr m c) hx r C).trans ?_
    rw [gWord_eq, e1, e3, e4]

/-! ## What the body finds -/

theorem find0 (c : Dev nD) (t : Fin cfg0.N) (Y) (h : (vdat m c).Finds 0 t Y) : Y = gArr m c :=
  finds_const (vdat m c) 0 (gArr m c) fetch0_0 (fun _ => rfl) (fun t d => fetched_global (vdat m c) t d rfl) (fun _ _ _ h => h) t.val t.isLt Y h

theorem find1 (c : Dev nD) (t : Fin cfg0.N) (Y) (h : (vdat m c).Finds 1 t Y) : Y = xArr m c :=
  finds_const (vdat m c) 1 (xArr m c) fetch0_1 (fun _ => rfl) (fun t d => fetched_acts (vdat m c) t d rfl) (fun _ _ _ h => h) t.val t.isLt Y h

theorem vobligation (c : Dev nD) : (vdat m c).BodyObligation (defs₀ (F := Ideal)) Variants.none () Set.univ := fun t Y hY => by
  rw [bigSep_W0, bigSep_W0, defs₀_row, show (vdat m c).Φ t.succ = inv m c (t.val + 1) from rfl, show (vdat m c).Φ t.castSucc = inv m c t.val from rfl,
    show (vdat m c).owesAt () t.succ = (vdat m c).owesAt () t.castSucc from rfl]
  obtain ⟨d2, e2⟩ := ((vdat m c).finds_of_fetch (fetch0_2 t) _).mp (hY 2)
  obtain ⟨d3, e3⟩ := ((vdat m c).finds_of_fetch (fetch0_3 t) _).mp (hY 3)
  refine (show _ ⊢ vPre m c t Y from ?_).trans ((vbody m c t Y (find0 m c t _ (hY 0)) (find1 m c t _ (hY 1))
    (fun κ l h => by rw [e2]; exact fetched_codes (vdat m c) t d2 rfl κ l h)
    (fun q C h => by rw [e3]; exact fetched_scales (vdat m c) t d3 rfl q C h)).trans (wp_mono _ _ _ fun _ => ?_))
  · unfold vPre
    iintro H
    iexact H
  · unfold vPost
    iintro ⟨HΦ, HO, H1, H2, H3, H4, ⟨%X, %hX, H5⟩⟩
    isplitl [HΦ]; · iexact HΦ
    isplitl [HO]; · iexact HO
    isplitl [H1]; · iexists (Y 0); isplitr; · ipureintro; rfl
                    iexact H1
    isplitl [H2]; · iexists (Y 1); isplitr; · ipureintro; rfl
                    iexact H2
    isplitl [H3]; · iexists (Y 2); isplitr; · ipureintro; rfl
                    iexact H3
    isplitl [H4]; · iexists (Y 3); isplitr; · ipureintro; rfl
                    iexact H4
    iexists X; isplitr; · ipureintro; exact hX
    iexact H5

/-- The invariant before the first point, and forgotten after the last. -/
theorem inv_in (c : Dev nD) : Pipeline.ΦA spec0 c ⊢ inv m c 0 := by
  unfold Pipeline.ΦA inv
  rw [scopedRest0_eq]
  simp only [← owns_whole]
  iintro ⟨⟨⟨%d6, H6⟩, H7⟩, Hg⟩
  isplitl [H6 H7]
  · isplitl [H6]
    · iexists d6; isplitr; · ipureintro; exact fun h => absurd rfl h
      iexact H6
    iexact H7
  iexact Hg

theorem inv_out (c : Dev nD) (n : Nat) : inv m c n ⊢ Pipeline.ΦA spec0 c := by
  unfold Pipeline.ΦA inv
  rw [scopedRest0_eq]
  simp only [← owns_whole]
  iintro ⟨⟨⟨%d6, -, H6⟩, H7⟩, Hg⟩
  isplitl [H6 H7]
  · isplitl [H6]
    · iexists d6
      iexact H6
    iexact H7
  iexact Hg

theorem vrun : θ_run defs (onTc (τ := τ) (main (F := Ideal))) (s₀ m ρ)
    (fun r => RDat.FramePost (cfgs 0) (vdat m) (V m) r ∧ r.2.sem = fun _ => 0) :=
  RDat.θ_run_frame_track cfgs (0 : Fin 1) launch0 defs₀ Variants.none (vdat m) m ρ main
    (hbody := vobligation m) (hshare := fun c w => by unfold RDat.share; split <;> rfl) (howed := fun _ _ => rfl)
    (V := V m) (hmain := hmain m Variants.none) (hA := fun _ _ => rfl) (hin := fun c => inv_in m c) (hout := fun c => inv_out m c _)
    (Q' := fun r => RDat.FramePost (cfgs 0) (vdat m) (V m) r ∧ r.2.sem = fun _ => 0) (hQ' := fun _ h => h)

/-! ## The result array -/

/-- The result, as contents of its buffer. -/
def outBuf (c : Dev nD) : Buf (Elt Ideal) ((c.tc : Thread nD τ).loc main_v2) := fun j => outAt m c (j 0) (j 1)

theorem covers4 : (cfg0.win 4).Covers := by decide +kernel

theorem result_eq (c : Dev nD) (r : PUnit × MemSt nD τ sig (Elt Ideal)) (h : RDat.FramePost (cfgs 0) (vdat m) (V m) r) :
    r.2.mem ((c.tc : Thread nD τ).loc main_v2) = outBuf m c := by
  obtain ⟨after, hL, hA⟩ := RDat.FramePost.exists_exact h c
  refine (hA 4).trans (((vdat m c).withAfter after).arrAt_eq_of_covers 4 (outBuf m c) covers4 fun t hf y => ?_)
  obtain ⟨Y, -, hok⟩ := hL 4 t hf
  have hok : OutOk m c t.val (after 4 t) := hok
  have hy : (y 1).val < min 512 (30976 - 512 * t.val) := lt_of_lt_of_eq (y 1).isLt (xsize4_1 t)
  have hy0 : (y 0).val < 16 := (y 0).isLt
  have e : (cfg0.win 4).xinj (cfg0.grid.coords t) y = ix2 (⟨(y 0).val, hy0⟩ : Fin 16) (⟨(y 1).val, by omega⟩ : Fin 512) := by
    funext a
    match a with
    | ⟨0, _⟩ => rfl
    | ⟨1, _⟩ => rfl
  show after 4 t ((cfg0.win 4).xinj (cfg0.grid.coords t) y) = _
  rw [e]
  refine (hok _ _ (by show 512 * t.val + (y 1).val < 30976; omega)).trans ?_
  unfold outBuf
  congr 1
  · exact Fin.ext ((ValueKit.view_emb_slice_whole_unit_val _ _ _ _ _ _).trans (by show 0 * 16 + (y 0).val = (y 0).val; omega)).symm
  · exact Fin.ext ((ValueKit.view_emb_slice_whole_unit_val _ _ _ _ _ _).trans (by show (cfg0.win 4).index t 1 * 512 + (y 1).val = 512 * t.val + (y 1).val; rw [index4]; omega)).symm

end Cert.KernelIdeal.Hand

end
-- ==== Proof.RefValue.lean ====
/-
  THE REFERENCE'S RESULT AS A TERM. The reference unpacks the two nibbles of every byte of the weight before its small
  kernel (the one that widens the scales), and decodes, scales, multiplies and interleaves after it. This module states
  those lines as plain functions of arrays and reads the result buffer as their composition.
-/
module

public import proofs.«01_k».proof.Proof.Gen.ReferenceIdeal.Frame
public import Idealize.ShloMosaic.Lib.StableHlo.RunRead
public import Idealize.ShloMosaic.Lib.Pointwise
public import Idealize.ShloMosaic.Lib.Pipeline.ValueKit

@[expose] public section

noncomputable section

namespace Cert.ReferenceIdeal.Hand

open Idealize.ShloMosaic Idealize.SL Idealize.SL.Sem
open Cert.ReferenceIdeal Cert.ReferenceIdeal.Gen
open TcCoe

/-- An array of 32-bit words, one word repeated. -/
abbrev splat (b : BitVec 32) : Vec Ideal S9984x15488 .i32 :=
  broadcastInDim S9984x15488 ![] bcast_S_S9984x15488 (constantI S_ 32 b)

/-- The reference's decode of an array of four-bit codes, each in a 32-bit word, to bf16. -/
def decodeR (n : Vec Ideal S9984x15488 .i32) : FVec Ideal S9984x15488 .bf16 :=
  bitcastToFloat (F := Ideal) .bf16 (trunci 16 (ori
    (select (cmpi .uge (andi n (splat 7#32)) (splat 2#32))
      (addi (Host.shli (andi n (splat 7#32)) (splat 6#32)) (splat 16128#32))
      (select (cmpi .eq (andi n (splat 7#32)) (splat 1#32)) (splat 16128#32) (splat 0#32)))
    (Host.shli (andi n (splat 8#32)) (splat 12#32))) natLt_16_32)

/-- Codes decoded and multiplied by their scales, one scale per sixteen rows. -/
def scaledR (n : Vec Ideal S9984x15488 .i32) (s : FVec Ideal S624x15488 .bf16) : FVec Ideal S9984x15488 .bf16 :=
  shapeCast S9984x15488 (mulf
    (shapeCast S624x16x15488 (decodeR n) shapeCasts_S9984x15488_S624x16x15488)
    (broadcastInDim S624x16x15488 ![0, 1, 2] bcast_S624x1x15488_S624x16x15488_0_1_2
      (broadcastInDim S624x1x15488 ![0, 2] bcast_S624x15488_S624x1x15488_0_2 s))) shapeCasts_S624x16x15488_S9984x15488

/-- One of the reference's two products: half of the output columns. -/
def halfR (x : FVec Ideal S16x1x9984 .bf16) (n : Vec Ideal S9984x15488 .i32) (s : FVec Ideal S624x15488 .bf16) :
    FVec Ideal S16x15488 .f32 :=
  Host.dotGeneral (F := Ideal) dot_S16x9984_S9984x15488_S16x15488_1_0_0_1_n_n none
    (shapeCast S16x9984 x shapeCasts_S16x1x9984_S16x9984) (scaledR n s)

/-- The two halves interleaved, times the global scale, in bf16. -/
def tailR (x : FVec Ideal S16x1x9984 .bf16) (lo hi : Vec Ideal S9984x15488 .i32) (s : FVec Ideal S624x30976 .bf16)
    (g : FVec Ideal S_ .f32) : FVec Ideal S16x30976 .bf16 :=
  truncf .bf16 (mulf
    (shapeCast S16x30976 (concatenate S16x15488x2 2
      [⟨S16x15488x1, broadcastInDim S16x15488x1 ![0, 1] bcast_S16x15488_S16x15488x1_0_1
          (halfR x lo (Host.slice S624x15488 ![0, 0] ![1, 2] s slicesBy_S624x30976_S624x15488_0s1_0s2))⟩,
        ⟨S16x15488x1, broadcastInDim S16x15488x1 ![0, 1] bcast_S16x15488_S16x15488x1_0_1
          (halfR x hi (Host.slice S624x15488 ![0, 1] ![1, 2] s slicesBy_S624x30976_S624x15488_0s1_1s2))⟩]
      concatenates_S16x15488x1_S16x15488x1_S16x15488x2_d2) shapeCasts_S16x15488x2_S16x30976)
    (broadcastInDim S16x30976 ![] bcast_S_S16x30976 g)) bitsLt_bf16_f32

/-- The two interleaved halves, each replaced by an equal one. -/
theorem interleave_congr {a a' b b' : FVec Ideal S16x15488x1 .f32} (ha : a = a') (hb : b = b') :
    concatenate S16x15488x2 2 [⟨S16x15488x1, a⟩, ⟨S16x15488x1, b⟩] concatenates_S16x15488x1_S16x15488x1_S16x15488x2_d2
      = concatenate S16x15488x2 2 [⟨S16x15488x1, a'⟩, ⟨S16x15488x1, b'⟩]
          concatenates_S16x15488x1_S16x15488x1_S16x15488x2_d2 := by
  rw [ha, hb]

/-- What the last lines do with the two interleaved halves. -/
def scaleR (z : FVec Ideal S16x15488x2 .f32) (g : FVec Ideal S_ .f32) : FVec Ideal S16x30976 .bf16 :=
  truncf .bf16 (mulf (shapeCast S16x30976 z shapeCasts_S16x15488x2_S16x30976)
    (broadcastInDim S16x30976 ![] bcast_S_S16x30976 g)) bitsLt_bf16_f32

set_option maxRecDepth 100000 in
/-- The lines after the reference's small kernel, read at the result. -/
theorem tail_result (W : Valuation τ sig (Elt Ideal)) :
    StableHlo.after (List.flatten [hostOps1, hostOps1_1, hostOps1_2, hostOps1_3, hostOps1_4, hostOps1_5, hostOps1_6,
        hostOps1_7, hostOps1_8]) W (Proc.devRef .tc main_v65)
      = tailR (W (Proc.devRef .tc main_arg0)) (W (Proc.devRef .tc main_v2)) (W (Proc.devRef .tc main_v4))
          (W (Proc.devRef .tc main_v5)) (W (Proc.devRef .tc main_arg3)) := by
  dsimp only [hostOps1, hostOps1_1, hostOps1_2, hostOps1_3, hostOps1_4, hostOps1_5, hostOps1_6,
        hostOps1_7, hostOps1_8, List.flatten_cons, List.flatten_nil, List.cons_append, List.nil_append, List.append_nil]
  after_reads_simp
  refine congrArg ((scaleR · (W (Proc.devRef .tc main_arg3)))) (interleave_congr ?_ ?_)
  · after_reads_simp
    rfl
  · after_reads_simp
    rfl

variable (m : (ℓ : Loc nD τ sig) → Buf (Elt Ideal) ℓ)

/-- The reference's small kernel leaves the scales it read: over the reals, widening a scale does not change it. -/
theorem scales_array (c : Dev nD) :
    ((dats m 0 c).arrAt 1 cfg0.N : FVec Ideal S624x30976 .bf16) = (V m c main_arg2 : FVec Ideal S624x30976 .fp8e4m3) := by
  refine (dats m 0 c).arrAt_eq_of_covers 1 _ (by decide +kernel) fun t hf y => ?_
  blk_simp
  rw [after0_1]
  unfold out0_1
  rw [View.canon_unit_zero (by funext a; revert a; decide), View.ld_unit_zero (by funext a; revert a; decide)]
  rfl

/-- The codes of the even columns, as the lines before the small kernel leave them. -/
theorem low_codes (c : Dev nD) :
    V0 m c (Proc.devRef .tc main_v2)
      = andi (extui 32 (m ((c : Thread nD τ).loc main_arg1)) natLt_8_32) (splat 15#32) := by
  dsimp only [V0, hostOps0, List.flatten_cons, List.flatten_nil, List.cons_append, List.nil_append, List.append_nil]
  after_reads_simp

/-- The codes of the odd columns. -/
theorem high_codes (c : Dev nD) :
    V0 m c (Proc.devRef .tc main_v4)
      = Host.shrui (extui 32 (m ((c : Thread nD τ).loc main_arg1)) natLt_8_32) (splat 4#32) := by
  dsimp only [V0, hostOps0, List.flatten_cons, List.flatten_nil, List.cons_append, List.nil_append, List.append_nil]
  after_reads_simp

/-- The result of a run of the reference, from the arguments. -/
theorem run_result (c : Dev nD) (r : PUnit × MemSt nD τ sig (Elt Ideal))
    (h : Pipeline.FramePost cfgs (dats m) 0 (Pipeline.afterTail₀ cfgs (dats m) 0 (V0 m)
      [hostOps1, hostOps1_1, hostOps1_2, hostOps1_3, hostOps1_4, hostOps1_5, hostOps1_6, hostOps1_7, hostOps1_8]) r) :
    r.2.mem ((c : Thread nD τ).loc main_v65)
      = tailR (m ((c : Thread nD τ).loc main_arg0))
          (andi (extui 32 (m ((c : Thread nD τ).loc main_arg1)) natLt_8_32) (splat 15#32))
          (Host.shrui (extui 32 (m ((c : Thread nD τ).loc main_arg1)) natLt_8_32) (splat 4#32))
          (m ((c : Thread nD τ).loc main_arg2) : FVec Ideal S624x30976 .fp8e4m3) (m ((c : Thread nD τ).loc main_arg3)) := by
  refine ((h c).2 main_v65 (Pipeline.mem_restRefs_of main_v65 (by decide) (by decide))).trans ?_
  unfold Pipeline.afterTail₀
  refine (tail_result _).trans ?_
  have hs := (Pipeline.withArrays_arr (cfgs 0).spec (by decide) c (V0 m c)
    (fun w => (dats m 0 c).arrAt w (cfgs 0).N) 1).trans ((scales_array m c).trans (V_main_arg2 m c))
  rw [Pipeline.withArrays_of_ne _ _ _ _ main_arg0 (by decide), Pipeline.withArrays_of_ne _ _ _ _ main_v2 (by decide),
    Pipeline.withArrays_of_ne _ _ _ _ main_v4 (by decide), Pipeline.withArrays_of_ne _ _ _ _ main_arg3 (by decide),
    low_codes, high_codes]
  exact congr (congrArg₂ (fun a s => tailR a _ _ s) (V_main_arg0 m c) hs) (V_main_arg3 m c)

end Cert.ReferenceIdeal.Hand

end
-- ==== Proof.RefMath.lean ====
/-
  THE REFERENCE'S RESULT AT AN INDEX. Element `(r, n)` is the sum over all `9984` input rows of the activation times the
  decoded code times the code's scale, times the global scale; an even column takes the low four bits of its byte, an odd
  column the high four.
-/
module

public import proofs.«01_k».proof.Proof.RefValue
public import proofs.«01_k».proof.Proof.MathDecode

@[expose] public section

set_option maxRecDepth 16384

noncomputable section

namespace Cert.ReferenceIdeal.Hand

open Idealize.ShloMosaic
open Cert.ReferenceIdeal Cert.ReferenceIdeal.Gen
open Cert.KernelIdeal.Hand (codeBits codeVal)

/-- The reference's decode of one code, held in a 32-bit word. -/
def refBits (w : BitVec 32) : BitVec 16 :=
  BitVec.setWidth 16
    (IntOp.ori
      (Scalar.select (IntOp.cmpi .uge (IntOp.andi w 7#32) 2#32)
        (IntOp.addi (IntOp.shli .host (IntOp.andi w 7#32) 6#32) 16128#32)
        (Scalar.select (IntOp.cmpi .eq (IntOp.andi w 7#32) 1#32) 16128#32 0#32))
      (IntOp.shli .host (IntOp.andi w 8#32) 12#32))

/-- It is the word the kernel's decode gives, on the low code of a byte … -/
theorem refBits_low : ∀ b : BitVec 8, refBits (IntOp.andi (b.setWidth 32) 15#32) = codeBits (b &&& 15#8) := by
  decide +kernel

/-- … and on the high one. -/
theorem refBits_high : ∀ b : BitVec 8, refBits (IntOp.shrui .host (b.setWidth 32) 4#32) = codeBits (b >>> 4) := by
  decide +kernel

/-- The codes of the even columns: the low four bits of every byte. -/
abbrev lowR (w : Vec Ideal S9984x15488 .i8) : Vec Ideal S9984x15488 .i32 := andi (extui 32 w natLt_8_32) (splat 15#32)

/-- The codes of the odd columns: the high four bits of every byte. -/
abbrev highR (w : Vec Ideal S9984x15488 .i8) : Vec Ideal S9984x15488 .i32 :=
  Host.shrui (extui 32 w natLt_8_32) (splat 4#32)

theorem decodeR_apply (n : Vec Ideal S9984x15488 .i32) (i : S9984x15488.Idx) :
    decodeR n i = FloatOps.ofBits (F := Ideal) .bf16 (refBits (n i)) := by
  pointwise [decodeR]
  rfl

theorem decode_low (w : Vec Ideal S9984x15488 .i8) (i : S9984x15488.Idx) :
    decodeR (lowR w) i = codeVal (w i &&& 15#8) := by
  rw [decodeR_apply]
  exact congrArg (FloatOps.ofBits (F := Ideal) .bf16) (refBits_low (w i))

theorem decode_high (w : Vec Ideal S9984x15488 .i8) (i : S9984x15488.Idx) :
    decodeR (highR w) i = codeVal (w i >>> 4) := by
  rw [decodeR_apply]
  exact congrArg (FloatOps.ofBits (F := Ideal) .bf16) (refBits_high (w i))

/-- A decoded weight is its code's value times the scale of its sixteen rows. -/
theorem scaledR_apply (n : Vec Ideal S9984x15488 .i32) (s : FVec Ideal S624x15488 .bf16) (k : Fin 9984) (v : Fin 15488) :
    scaledR n s (ix2 k v) = decodeR n (ix2 k v) * s (ix2 ⟨k.val / 16, by omega⟩ v) := by
  pointwise [scaledR]

/-- One product at an index: the sum over the input rows. -/
theorem halfR_apply (x : FVec Ideal S16x1x9984 .bf16) (n : Vec Ideal S9984x15488 .i32) (s : FVec Ideal S624x15488 .bf16)
    (r : Fin 16) (v : Fin 15488) :
    halfR x n s (ix2 r v) = ∑ k : Fin 9984, x (ix3 r 0 k) * scaledR n s (ix2 k v) := by
  pointwise [halfR]

/-- The scales of the even columns. -/
theorem even_scales (s : FVec Ideal S624x30976 .bf16) (b : Fin 624) (v : Fin 15488) :
    Host.slice S624x15488 ![0, 0] ![1, 2] s slicesBy_S624x30976_S624x15488_0s1_0s2 (ix2 b v)
      = s (ix2 b ⟨2 * v.val, by omega⟩) := by
  pointwise

/-- The scales of the odd columns. -/
theorem odd_scales (s : FVec Ideal S624x30976 .bf16) (b : Fin 624) (v : Fin 15488) :
    Host.slice S624x15488 ![0, 1] ![1, 2] s slicesBy_S624x30976_S624x15488_0s1_1s2 (ix2 b v)
      = s (ix2 b ⟨1 + 2 * v.val, by omega⟩) := by
  pointwise

/-- The result at an index is the even half's element at an even column and the odd half's at an odd one, times the global
    scale. -/
theorem tailR_apply (x : FVec Ideal S16x1x9984 .bf16) (lo hi : Vec Ideal S9984x15488 .i32)
    (s : FVec Ideal S624x30976 .bf16) (g : FVec Ideal S_ .f32) (r : Fin 16) (n : Fin 30976) :
    tailR x lo hi s g (ix2 r n)
      = (if n.val % 2 < 1 then
          halfR x lo (Host.slice S624x15488 ![0, 0] ![1, 2] s slicesBy_S624x30976_S624x15488_0s1_0s2)
            (ix2 r ⟨n.val / 2, by omega⟩)
        else
          halfR x hi (Host.slice S624x15488 ![0, 1] ![1, 2] s slicesBy_S624x30976_S624x15488_0s1_1s2)
            (ix2 r ⟨n.val / 2, by omega⟩)) * g ix0 := by
  pointwise [tailR]
  rfl

/-- THE REFERENCE'S RESULT: the sum over the input rows of activation times code times scale, times the global scale. -/
theorem refValue (x : FVec Ideal S16x1x9984 .bf16) (w : Vec Ideal S9984x15488 .i8) (s : FVec Ideal S624x30976 .bf16)
    (g : FVec Ideal S_ .f32) (r : Fin 16) (n : Fin 30976) :
    tailR x (lowR w) (highR w) s g (ix2 r n)
      = (∑ k : Fin 9984, x (ix3 r 0 k)
          * (codeVal (if n.val % 2 = 0 then w (ix2 k ⟨n.val / 2, by omega⟩) &&& 15#8
              else w (ix2 k ⟨n.val / 2, by omega⟩) >>> 4)
            * s (ix2 ⟨k.val / 16, by omega⟩ n))) * g ix0 := by
  rw [tailR_apply]
  congr 1
  split
  · rename_i h
    rw [halfR_apply]
    refine Finset.sum_congr rfl fun k _ => ?_
    rw [scaledR_apply, decode_low, even_scales, if_pos (by omega)]
    congr 4
    exact Fin.ext (by show 2 * (n.val / 2) = n.val; omega)
  · rename_i h
    rw [halfR_apply]
    refine Finset.sum_congr rfl fun k _ => ?_
    rw [scaledR_apply, decode_high, odd_scales, if_neg (by omega)]
    congr 4
    exact Fin.ext (by show 1 + 2 * (n.val / 2) = n.val; omega)

end Cert.ReferenceIdeal.Hand

end
-- ==== Proof.Equation.lean ====
/-
  THE EQUATION. The kernel's result array and the reference's, from memories that agree on the four arguments, are one array:
  element `(r, n)` of both is the sum over the input rows of activation times code times scale, times the global scale.
  The module ends with the value claim.
-/
module

public import proofs.«01_k».proof.Defs
public import proofs.«01_k».proof.Proof.KernelValue
public import proofs.«01_k».proof.Proof.RefMath

@[expose] public section

set_option maxRecDepth 16384

noncomputable section

namespace Cert.Equation

open Idealize.ShloMosaic Idealize.SL Idealize.SL.Sem
open Cert.KernelIdeal.Hand
open TcCoe

section Entry

open Cert.KernelIdeal Cert.KernelIdeal.Gen

variable (m : (ℓ : Loc nD τ sig) → Buf (Elt Ideal) ℓ) (c : Dev nD)

/-- Dropping the activations' middle axis, at an index. -/
theorem reshaped_apply (x : FVec Ideal S16x1x9984 .bf16) (r : Fin 16) (k : Fin 9984) :
    shapeCast S16x9984 x shapeCasts_S16x1x9984_S16x9984 (ix2 r k) = x (ix3 r 0 k) := by
  pointwise

/-- The activations as the pipeline finds them: the argument without its middle axis. -/
theorem xArr_apply (r : Fin 16) (k : Fin 9984) :
    xArr m c (ix2 r k) = (m ((c : Thread nD τ).loc main_arg0) : FVec Ideal S16x1x9984 .bf16) (ix3 r 0 k) := by
  have h : (xArr m c : FVec Ideal S16x9984 .bf16)
      = shapeCast S16x9984 (m ((c : Thread nD τ).loc main_arg0) : FVec Ideal S16x1x9984 .bf16)
          shapeCasts_S16x1x9984_S16x9984 := by
    unfold xArr V hostOps0
    after_reads_simp
    rfl
  rw [h]
  exact reshaped_apply _ r k

/-- The global scale as the pipeline finds it. -/
theorem gArr_apply (i : S1.Idx) : gArr m c i = (m ((c : Thread nD τ).loc main_arg3) : FVec Ideal S_ .f32) ix0 := by
  have h : (gArr m c : FVec Ideal S1 .f32)
      = shapeCast S1 (m ((c : Thread nD τ).loc main_arg3) : FVec Ideal S_ .f32) shapeCasts_S_S1 := by
    unfold gArr V hostOps0
    after_reads_simp
    rfl
  rw [h]
  exact congrArg (m ((c : Thread nD τ).loc main_arg3) : FVec Ideal S_ .f32) (funext fun a => a.elim0)

/-- The kernel's run: its result array, and the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = outBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨result_eq m c r h.1,
     ((h.1 c).2 main_arg0 (Pipeline.mem_restRefs_of main_arg0 (by decide) (by decide))).trans (V_main_arg0 m c),
     (h.1.arr_in c 2 rfl).trans (V_main_arg1 m c),
     (h.1.arr_in c 3 rfl).trans (V_main_arg2 m c),
     ((h.1 c).2 main_arg3 (Pipeline.mem_restRefs_of main_arg3 (by decide) (by decide))).trans (V_main_arg3 m c)⟩)
    (vrun m g)

/-- The array both programs end with, from the arguments. -/
theorem outBuf_eq :
    outBuf m c = Cert.ReferenceIdeal.Hand.tailR (m ((c : Thread nD τ).loc main_arg0))
      (Cert.ReferenceIdeal.Hand.lowR (m ((c : Thread nD τ).loc main_arg1)))
      (Cert.ReferenceIdeal.Hand.highR (m ((c : Thread nD τ).loc main_arg1)))
      (m ((c : Thread nD τ).loc main_arg2) : FVec Ideal S624x30976 .fp8e4m3) (m ((c : Thread nD τ).loc main_arg3)) := by
  funext j
  obtain ⟨r, n, rfl⟩ : ∃ (r : Fin 16) (n : Fin 30976), j = ix2 r n :=
    ⟨j 0, j 1, by funext a; match a with | 0 => rfl | 1 => rfl⟩
  refine Eq.trans ?_ (Cert.ReferenceIdeal.Hand.refValue _ _ _ _ r n).symm
  show outAt m c r n = _
  unfold outAt outVal weightAt
  rw [gArr_apply, show wArr m c = m ((c : Thread nD τ).loc main_arg1) from V_main_arg1 m c,
    show sArr m c = m ((c : Thread nD τ).loc main_arg2) from V_main_arg2 m c]
  simp only [xArr_apply]

end Entry

/-- THE VALUE CLAIM: over the reals the kernel and the reference end with the same result. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨outBuf m, kernel_run m g, ?_⟩
  refine (θ_run Cert.ReferenceIdeal.defs _ _).mono (fun r h c => ⟨?_, h.2 c⟩)
    (θ_run_and (Cert.ReferenceIdeal.Gen.run_main (F := Ideal) m' g') (Cert.ReferenceIdeal.Gen.unchanged (F := Ideal) m' g'))
  obtain ⟨h0, h1, h2, h3⟩ := hargs c
  refine (Cert.ReferenceIdeal.Hand.run_result m' c r h.1).trans ?_
  rw [h0, h1, h2, h3]
  exact (outBuf_eq m c).symm

end Cert.Equation

end
-- ==== Proof.lean ====
/-
  The proof, hand-written and untrusted, of this directory's certificate.
  Proof/KernelRun.lean and Proof/KernelFrame.lean prove the frame of the kernel as printed; Proof/IdealRun.lean and
  Proof/IdealFrame.lean that of its idealization; the reference's frame is the generated one. Proof/KernelValue.lean says what
  array the kernel leaves, Proof/RefMath.lean what array the reference leaves, and Proof/Equation.lean that they are the same.
-/
module

public import proofs.«01_k».proof.Defs
public import proofs.«01_k».proof.Proof.KernelFrame
public import proofs.«01_k».proof.Proof.IdealFrame
public import proofs.«01_k».proof.Proof.Equation
public import proofs.«01_k».proof.Proof.Gen.ReferenceIdeal
public import proofs.«01_k».proof.Proof.Gen.ReferenceIdeal.Frame
public import Idealize.ShloMosaic.Lib.Bf16Pair
public import Idealize.ShloMosaic.Adequacy
public import Idealize.ShloMosaic.Init

@[expose] public section

noncomputable section

namespace Cert.Proof

open Idealize.ShloMosaic Idealize.SL.Sem

/-- What each rewrite of the idealization states, at the shapes it was applied at. -/
theorem preserves : Cert.preserves_Kernel_KernelIdeal :=
  ⟨IdealRules.bf16_pair.packStatement _, IdealRules.bf16_pair.statement _ _, IdealRules.bf16_pair.packStatement _,
    IdealRules.bf16_pair.statement _ _, IdealRules.bf16_pair.statement _ _⟩

theorem claim : Cert.Claim := ⟨Cert.Kernel.Gen.facts, Cert.KernelIdeal.Gen.facts, Cert.ReferenceIdeal.Gen.facts,
  fun m g _ => Cert.Kernel.Hand.frame (F := Bits) m g,
  fun m g _ => Cert.KernelIdeal.Hand.frame (F := Ideal) m g,
  fun m g _ => Cert.ReferenceIdeal.Gen.frame (F := Ideal) m g,
  preserves,
  Cert.Equation.algebraic⟩

end Cert.Proof

end
